-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S8192x4096 : Shape := ⟨2, ![8192, 4096]⟩
abbrev S256x4096 : Shape := ⟨2, ![256, 4096]⟩
abbrev S32x256x256 : Shape := ⟨3, ![32, 256, 256]⟩
abbrev S2x256x4096 : Shape := ⟨3, ![2, 256, 4096]⟩
abbrev S32 : Shape := ⟨1, ![32]⟩
abbrev S2 : Shape := ⟨1, ![2]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x256x4096 : Shape := ⟨3, ![1, 256, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x4096, .f32⟩
  | .local _ .vmem, ⟨0, _⟩ => ⟨S8192x256, .f32⟩
  | .local _ .vmem, ⟨1, _⟩ => ⟨S256x4096, .f32⟩
  | .local _ .vmem, ⟨2, _⟩ => ⟨S8192x256, .bf16⟩
  | .local _ .vmem, ⟨3, _⟩ => ⟨S32x256x256, .bf16⟩
  | .local _ .vmem, ⟨4, _⟩ => ⟨S2x256x4096, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_134 : BitVec 32 := 0#32
  let c0_i32_135 : BitVec 32 := 0#32
  ![v2.toNat, 0, 0]
def k0_off2 (d0 : Dev nD) (c1_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c1_i32_128
  let c32_i32_129 : BitVec 32 := 32#32
  let v135 : BitVec 32 := Scalar.remsi v134 c32_i32_129
  let c256_i32 : BitVec 32 := 256#32
  let v136 : BitVec 32 := Scalar.muli v135 c256_i32
  let c0_i32_136 : BitVec 32 := 0#32
  ![v136.toNat, 0]
def k0_dev32 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_128 : BitVec 32 := 1#32
  let v134 : BitVec 32 := Scalar.addi v2 c1_i32_128
  let c32_i32_129 : BitVec 32 := 32#32
  let v135 : BitVec 32 := Scalar.remsi v134 c32_i32_129
  let c1_i32_132 : BitVec 32 := 1#32
  let v137 : BitVec 32 := Scalar.muli v135 c1_i32_132
  let v138 : BitVec 32 := Scalar.addi c0_i32_133 v137
  v138.toNat
def k0_dev33 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_137 : BitVec 32 := 2#32
  let v146 : BitVec 32 := Scalar.addi v2 c2_i32_137
  let c32_i32_138 : BitVec 32 := 32#32
  let v147 : BitVec 32 := Scalar.remsi v146 c32_i32_138
  let c1_i32_142 : BitVec 32 := 1#32
  let v149 : BitVec 32 := Scalar.muli v147 c1_i32_142
  let v150 : BitVec 32 := Scalar.addi c0_i32_143 v149
  v150.toNat
def k0_dev34 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_147 : BitVec 32 := 3#32
  let v158 : BitVec 32 := Scalar.addi v2 c3_i32_147
  let c32_i32_148 : BitVec 32 := 32#32
  let v159 : BitVec 32 := Scalar.remsi v158 c32_i32_148
  let c1_i32_152 : BitVec 32 := 1#32
  let v161 : BitVec 32 := Scalar.muli v159 c1_i32_152
  let v162 : BitVec 32 := Scalar.addi c0_i32_153 v161
  v162.toNat
def k0_dev35 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_157 : BitVec 32 := 4#32
  let v170 : BitVec 32 := Scalar.addi v2 c4_i32_157
  let c32_i32_158 : BitVec 32 := 32#32
  let v171 : BitVec 32 := Scalar.remsi v170 c32_i32_158
  let c1_i32_162 : BitVec 32 := 1#32
  let v173 : BitVec 32 := Scalar.muli v171 c1_i32_162
  let v174 : BitVec 32 := Scalar.addi c0_i32_163 v173
  v174.toNat
def k0_dev36 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_167 : BitVec 32 := 5#32
  let v182 : BitVec 32 := Scalar.addi v2 c5_i32_167
  let c32_i32_168 : BitVec 32 := 32#32
  let v183 : BitVec 32 := Scalar.remsi v182 c32_i32_168
  let c1_i32_172 : BitVec 32 := 1#32
  let v185 : BitVec 32 := Scalar.muli v183 c1_i32_172
  let v186 : BitVec 32 := Scalar.addi c0_i32_173 v185
  v186.toNat
def k0_dev37 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_177 : BitVec 32 := 6#32
  let v194 : BitVec 32 := Scalar.addi v2 c6_i32_177
  let c32_i32_178 : BitVec 32 := 32#32
  let v195 : BitVec 32 := Scalar.remsi v194 c32_i32_178
  let c1_i32_182 : BitVec 32 := 1#32
  let v197 : BitVec 32 := Scalar.muli v195 c1_i32_182
  let v198 : BitVec 32 := Scalar.addi c0_i32_183 v197
  v198.toNat
def k0_dev38 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_187 : BitVec 32 := 7#32
  let v206 : BitVec 32 := Scalar.addi v2 c7_i32_187
  let c32_i32_188 : BitVec 32 := 32#32
  let v207 : BitVec 32 := Scalar.remsi v206 c32_i32_188
  let c1_i32_192 : BitVec 32 := 1#32
  let v209 : BitVec 32 := Scalar.muli v207 c1_i32_192
  let v210 : BitVec 32 := Scalar.addi c0_i32_193 v209
  v210.toNat
def k0_dev39 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_197 : BitVec 32 := 8#32
  let v218 : BitVec 32 := Scalar.addi v2 c8_i32_197
  let c32_i32_198 : BitVec 32 := 32#32
  let v219 : BitVec 32 := Scalar.remsi v218 c32_i32_198
  let c1_i32_202 : BitVec 32 := 1#32
  let v221 : BitVec 32 := Scalar.muli v219 c1_i32_202
  let v222 : BitVec 32 := Scalar.addi c0_i32_203 v221
  v222.toNat
def k0_dev40 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_207 : BitVec 32 := 9#32
  let v230 : BitVec 32 := Scalar.addi v2 c9_i32_207
  let c32_i32_208 : BitVec 32 := 32#32
  let v231 : BitVec 32 := Scalar.remsi v230 c32_i32_208
  let c1_i32_212 : BitVec 32 := 1#32
  let v233 : BitVec 32 := Scalar.muli v231 c1_i32_212
  let v234 : BitVec 32 := Scalar.addi c0_i32_213 v233
  v234.toNat
def k0_dev41 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_217 : BitVec 32 := 10#32
  let v242 : BitVec 32 := Scalar.addi v2 c10_i32_217
  let c32_i32_218 : BitVec 32 := 32#32
  let v243 : BitVec 32 := Scalar.remsi v242 c32_i32_218
  let c1_i32_222 : BitVec 32 := 1#32
  let v245 : BitVec 32 := Scalar.muli v243 c1_i32_222
  let v246 : BitVec 32 := Scalar.addi c0_i32_223 v245
  v246.toNat
def k0_dev42 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_227 : BitVec 32 := 11#32
  let v254 : BitVec 32 := Scalar.addi v2 c11_i32_227
  let c32_i32_228 : BitVec 32 := 32#32
  let v255 : BitVec 32 := Scalar.remsi v254 c32_i32_228
  let c1_i32_232 : BitVec 32 := 1#32
  let v257 : BitVec 32 := Scalar.muli v255 c1_i32_232
  let v258 : BitVec 32 := Scalar.addi c0_i32_233 v257
  v258.toNat
def k0_dev43 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_237 : BitVec 32 := 12#32
  let v266 : BitVec 32 := Scalar.addi v2 c12_i32_237
  let c32_i32_238 : BitVec 32 := 32#32
  let v267 : BitVec 32 := Scalar.remsi v266 c32_i32_238
  let c1_i32_242 : BitVec 32 := 1#32
  let v269 : BitVec 32 := Scalar.muli v267 c1_i32_242
  let v270 : BitVec 32 := Scalar.addi c0_i32_243 v269
  v270.toNat
def k0_dev44 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_247 : BitVec 32 := 13#32
  let v278 : BitVec 32 := Scalar.addi v2 c13_i32_247
  let c32_i32_248 : BitVec 32 := 32#32
  let v279 : BitVec 32 := Scalar.remsi v278 c32_i32_248
  let c1_i32_252 : BitVec 32 := 1#32
  let v281 : BitVec 32 := Scalar.muli v279 c1_i32_252
  let v282 : BitVec 32 := Scalar.addi c0_i32_253 v281
  v282.toNat
def k0_dev45 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_257 : BitVec 32 := 14#32
  let v290 : BitVec 32 := Scalar.addi v2 c14_i32_257
  let c32_i32_258 : BitVec 32 := 32#32
  let v291 : BitVec 32 := Scalar.remsi v290 c32_i32_258
  let c1_i32_262 : BitVec 32 := 1#32
  let v293 : BitVec 32 := Scalar.muli v291 c1_i32_262
  let v294 : BitVec 32 := Scalar.addi c0_i32_263 v293
  v294.toNat
def k0_dev46 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_267 : BitVec 32 := 15#32
  let v302 : BitVec 32 := Scalar.addi v2 c15_i32_267
  let c32_i32_268 : BitVec 32 := 32#32
  let v303 : BitVec 32 := Scalar.remsi v302 c32_i32_268
  let c1_i32_272 : BitVec 32 := 1#32
  let v305 : BitVec 32 := Scalar.muli v303 c1_i32_272
  let v306 : BitVec 32 := Scalar.addi c0_i32_273 v305
  v306.toNat
def k0_dev47 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_277 : BitVec 32 := 16#32
  let v314 : BitVec 32 := Scalar.addi v2 c16_i32_277
  let c32_i32_278 : BitVec 32 := 32#32
  let v315 : BitVec 32 := Scalar.remsi v314 c32_i32_278
  let c1_i32_282 : BitVec 32 := 1#32
  let v317 : BitVec 32 := Scalar.muli v315 c1_i32_282
  let v318 : BitVec 32 := Scalar.addi c0_i32_283 v317
  v318.toNat
def k0_dev48 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_287 : BitVec 32 := 17#32
  let v326 : BitVec 32 := Scalar.addi v2 c17_i32_287
  let c32_i32_288 : BitVec 32 := 32#32
  let v327 : BitVec 32 := Scalar.remsi v326 c32_i32_288
  let c1_i32_292 : BitVec 32 := 1#32
  let v329 : BitVec 32 := Scalar.muli v327 c1_i32_292
  let v330 : BitVec 32 := Scalar.addi c0_i32_293 v329
  v330.toNat
def k0_dev49 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_297 : BitVec 32 := 18#32
  let v338 : BitVec 32 := Scalar.addi v2 c18_i32_297
  let c32_i32_298 : BitVec 32 := 32#32
  let v339 : BitVec 32 := Scalar.remsi v338 c32_i32_298
  let c1_i32_302 : BitVec 32 := 1#32
  let v341 : BitVec 32 := Scalar.muli v339 c1_i32_302
  let v342 : BitVec 32 := Scalar.addi c0_i32_303 v341
  v342.toNat
def k0_dev50 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_307 : BitVec 32 := 19#32
  let v350 : BitVec 32 := Scalar.addi v2 c19_i32_307
  let c32_i32_308 : BitVec 32 := 32#32
  let v351 : BitVec 32 := Scalar.remsi v350 c32_i32_308
  let c1_i32_312 : BitVec 32 := 1#32
  let v353 : BitVec 32 := Scalar.muli v351 c1_i32_312
  let v354 : BitVec 32 := Scalar.addi c0_i32_313 v353
  v354.toNat
def k0_dev51 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v362 : BitVec 32 := Scalar.addi v2 c20_i32_317
  let c32_i32_318 : BitVec 32 := 32#32
  let v363 : BitVec 32 := Scalar.remsi v362 c32_i32_318
  let c1_i32_322 : BitVec 32 := 1#32
  let v365 : BitVec 32 := Scalar.muli v363 c1_i32_322
  let v366 : BitVec 32 := Scalar.addi c0_i32_323 v365
  v366.toNat
def k0_dev52 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_327 : BitVec 32 := 21#32
  let v374 : BitVec 32 := Scalar.addi v2 c21_i32_327
  let c32_i32_328 : BitVec 32 := 32#32
  let v375 : BitVec 32 := Scalar.remsi v374 c32_i32_328
  let c1_i32_332 : BitVec 32 := 1#32
  let v377 : BitVec 32 := Scalar.muli v375 c1_i32_332
  let v378 : BitVec 32 := Scalar.addi c0_i32_333 v377
  v378.toNat
def k0_dev53 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_337 : BitVec 32 := 22#32
  let v386 : BitVec 32 := Scalar.addi v2 c22_i32_337
  let c32_i32_338 : BitVec 32 := 32#32
  let v387 : BitVec 32 := Scalar.remsi v386 c32_i32_338
  let c1_i32_342 : BitVec 32 := 1#32
  let v389 : BitVec 32 := Scalar.muli v387 c1_i32_342
  let v390 : BitVec 32 := Scalar.addi c0_i32_343 v389
  v390.toNat
def k0_dev54 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_347 : BitVec 32 := 23#32
  let v398 : BitVec 32 := Scalar.addi v2 c23_i32_347
  let c32_i32_348 : BitVec 32 := 32#32
  let v399 : BitVec 32 := Scalar.remsi v398 c32_i32_348
  let c1_i32_352 : BitVec 32 := 1#32
  let v401 : BitVec 32 := Scalar.muli v399 c1_i32_352
  let v402 : BitVec 32 := Scalar.addi c0_i32_353 v401
  v402.toNat
def k0_dev55 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_357 : BitVec 32 := 24#32
  let v410 : BitVec 32 := Scalar.addi v2 c24_i32_357
  let c32_i32_358 : BitVec 32 := 32#32
  let v411 : BitVec 32 := Scalar.remsi v410 c32_i32_358
  let c1_i32_362 : BitVec 32 := 1#32
  let v413 : BitVec 32 := Scalar.muli v411 c1_i32_362
  let v414 : BitVec 32 := Scalar.addi c0_i32_363 v413
  v414.toNat
def k0_dev56 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_367 : BitVec 32 := 25#32
  let v422 : BitVec 32 := Scalar.addi v2 c25_i32_367
  let c32_i32_368 : BitVec 32 := 32#32
  let v423 : BitVec 32 := Scalar.remsi v422 c32_i32_368
  let c1_i32_372 : BitVec 32 := 1#32
  let v425 : BitVec 32 := Scalar.muli v423 c1_i32_372
  let v426 : BitVec 32 := Scalar.addi c0_i32_373 v425
  v426.toNat
def k0_dev57 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_377 : BitVec 32 := 26#32
  let v434 : BitVec 32 := Scalar.addi v2 c26_i32_377
  let c32_i32_378 : BitVec 32 := 32#32
  let v435 : BitVec 32 := Scalar.remsi v434 c32_i32_378
  let c1_i32_382 : BitVec 32 := 1#32
  let v437 : BitVec 32 := Scalar.muli v435 c1_i32_382
  let v438 : BitVec 32 := Scalar.addi c0_i32_383 v437
  v438.toNat
def k0_dev58 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_387 : BitVec 32 := 27#32
  let v446 : BitVec 32 := Scalar.addi v2 c27_i32_387
  let c32_i32_388 : BitVec 32 := 32#32
  let v447 : BitVec 32 := Scalar.remsi v446 c32_i32_388
  let c1_i32_392 : BitVec 32 := 1#32
  let v449 : BitVec 32 := Scalar.muli v447 c1_i32_392
  let v450 : BitVec 32 := Scalar.addi c0_i32_393 v449
  v450.toNat
def k0_dev59 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_397 : BitVec 32 := 28#32
  let v458 : BitVec 32 := Scalar.addi v2 c28_i32_397
  let c32_i32_398 : BitVec 32 := 32#32
  let v459 : BitVec 32 := Scalar.remsi v458 c32_i32_398
  let c1_i32_402 : BitVec 32 := 1#32
  let v461 : BitVec 32 := Scalar.muli v459 c1_i32_402
  let v462 : BitVec 32 := Scalar.addi c0_i32_403 v461
  v462.toNat
def k0_dev60 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_407 : BitVec 32 := 29#32
  let v470 : BitVec 32 := Scalar.addi v2 c29_i32_407
  let c32_i32_408 : BitVec 32 := 32#32
  let v471 : BitVec 32 := Scalar.remsi v470 c32_i32_408
  let c1_i32_412 : BitVec 32 := 1#32
  let v473 : BitVec 32 := Scalar.muli v471 c1_i32_412
  let v474 : BitVec 32 := Scalar.addi c0_i32_413 v473
  v474.toNat
def k0_dev61 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_417 : BitVec 32 := 30#32
  let v482 : BitVec 32 := Scalar.addi v2 c30_i32_417
  let c32_i32_418 : BitVec 32 := 32#32
  let v483 : BitVec 32 := Scalar.remsi v482 c32_i32_418
  let c1_i32_422 : BitVec 32 := 1#32
  let v485 : BitVec 32 := Scalar.muli v483 c1_i32_422
  let v486 : BitVec 32 := Scalar.addi c0_i32_423 v485
  v486.toNat
def k0_dev62 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_427 : BitVec 32 := 31#32
  let v494 : BitVec 32 := Scalar.addi v2 c31_i32_427
  let c32_i32_428 : BitVec 32 := 32#32
  let v495 : BitVec 32 := Scalar.remsi v494 c32_i32_428
  let c1_i32_432 : BitVec 32 := 1#32
  let v497 : BitVec 32 := Scalar.muli v495 c1_i32_432
  let v498 : BitVec 32 := Scalar.addi c0_i32_433 v497
  v498.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_437 : BitVec 32 := 256#32
  let v506 : BitVec 32 := Scalar.muli v2 c256_i32_437
  let c0_i32_442 : BitVec 32 := 0#32
  ![v506.toNat, 0]
def k0_off4 (d0 : Dev nD) (c0_i32_446 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v515 : BitVec 32 := Scalar.subi v2 c0_i32_446
  let c1_i32_447 : BitVec 32 := 1#32
  let v516 : BitVec 32 := Scalar.subi v515 c1_i32_447
  let c32_i32_448 : BitVec 32 := 32#32
  let v517 : BitVec 32 := Scalar.addi v516 c32_i32_448
  let c32_i32_449 : BitVec 32 := 32#32
  let v518 : BitVec 32 := Scalar.remsi v517 c32_i32_449
  let c256_i32_450 : BitVec 32 := 256#32
  let v519 : BitVec 32 := Scalar.muli v518 c256_i32_450
  let c0_i32_455 : BitVec 32 := 0#32
  ![v519.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_456 : BitVec 32 := 256#32
  let v525 : BitVec 32 := Scalar.muli v2 c256_i32_456
  let v526 : Index := Scalar.indexCast v525
  let c0_457 : Index := 0#32
  ![v526.toNat, 0]
def k0_off6 (d0 : Dev nD) (c0_i32_443 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v512 : BitVec 32 := Scalar.subi v2 c0_i32_443
  let c32_i32_444 : BitVec 32 := 32#32
  let v513 : BitVec 32 := Scalar.addi v512 c32_i32_444
  let c32_i32_445 : BitVec 32 := 32#32
  let v514 : BitVec 32 := Scalar.remsi v513 c32_i32_445
  let c256_i32_458 : BitVec 32 := 256#32
  let v529 : BitVec 32 := Scalar.muli v514 c256_i32_458
  let c0_i32_463 : BitVec 32 := 0#32
  ![v529.toNat, 0]
def k0_off7 (d0 : Dev nD) (c1_i32_469 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v539 : BitVec 32 := Scalar.subi v2 c1_i32_469
  let c32_i32_470 : BitVec 32 := 32#32
  let v540 : BitVec 32 := Scalar.addi v539 c32_i32_470
  let c32_i32_471 : BitVec 32 := 32#32
  let v541 : BitVec 32 := Scalar.remsi v540 c32_i32_471
  let c0_i32_486 : BitVec 32 := 0#32
  let c0_i32_487 : BitVec 32 := 0#32
  ![v541.toNat, 0, 0]
def k0_off8 (d0 : Dev nD) (c1_i32_469 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v539 : BitVec 32 := Scalar.subi v2 c1_i32_469
  let c32_i32_470 : BitVec 32 := 32#32
  let v540 : BitVec 32 := Scalar.addi v539 c32_i32_470
  let c32_i32_471 : BitVec 32 := 32#32
  let v541 : BitVec 32 := Scalar.remsi v540 c32_i32_471
  let v559 : Index := Scalar.indexCast v541
  let c0_490 : Index := 0#32
  let c0_491 : Index := 0#32
  ![v559.toNat, 0, 0]
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.ProtoKernelIdeal.lean ====
/-
The protocol of the kernel, generic in the float values: the buffers and semaphore cells it communicates through, what
each cell's credit carries, what a device owes at launch, and the levels its waits are ordered by.

A device signals the barrier semaphore of each of the 31 others, and the signal hands its target the slot of the
signaller's gather buffer which that target will write. It waits for 31 such signals, then sends each other device the
256 rows of its bf16 copy of `x` which that device needs: the send cell returns the rows, the receive cell hands the
target the slot with those rows in it. The blocks of `w` come by local copies into two slots used in turn.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.SparseCore.FromWhole
public import Idealize.ShloMosaic.Lib.Ring.FamCut
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's cells, the protocol's cells, the local transfers' counters -/

abbrev UB : Type := URounds (GSem nD τ sig) (Fin 32)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's cells live in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Offsets around the mesh -/

/-- The offset `j` (taken modulo 32). -/
def dn (j : ℕ) : Fin 32 := ⟨j % 32, Nat.mod_lt _ (by decide)⟩
theorem dn_val {j : ℕ} (h : j < 32) : (dn j).val = j := Nat.mod_eq_of_lt h

/-- The offsets greater than `r`; -/
def above (r : ℕ) : Finset (Fin 32) := Finset.univ.filter (fun o => r < o.val)
/-- those from 1 to `r`. -/
def done (r : ℕ) : Finset (Fin 32) := Finset.univ.filter (fun o => 0 < o.val ∧ o.val ≤ r)

theorem mem_above {r : ℕ} {o : Fin 32} : o ∈ above r ↔ r < o.val := by simp [above]
theorem mem_done {r : ℕ} {o : Fin 32} : o ∈ done r ↔ 0 < o.val ∧ o.val ≤ r := by simp [done]
theorem above_succ {r : ℕ} (hr : r < 31) : above r = insert (dn (r + 1)) (above (r + 1)) := by
  ext o
  rw [Finset.mem_insert, mem_above, mem_above, Fin.ext_iff, dn_val (by omega)]; omega
theorem not_mem_above {r : ℕ} (hr : r < 31) : dn (r + 1) ∉ above (r + 1) := by
  rw [mem_above, dn_val (by omega)]; omega
theorem done_succ {r : ℕ} (hr : r < 31) : done (r + 1) = insert (dn (r + 1)) (done r) := by
  ext o
  rw [Finset.mem_insert, mem_done, mem_done, Fin.ext_iff, dn_val (by omega)]; omega
theorem not_mem_done {r : ℕ} (hr : r < 31) : dn (r + 1) ∉ done r := by
  rw [mem_done, dn_val (by omega)]; omega
theorem above_31 : above 31 = ∅ := by
  ext o; rw [mem_above]; simp; omega
theorem done_0 : done 0 = ∅ := by
  ext o; rw [mem_done]; simp; omega
theorem done_31 : done 31 = above 0 := by
  ext o; rw [mem_done, mem_above]; omega
theorem dn_ne_zero {r : ℕ} (hr : r < 31) : dn (r + 1) ≠ 0 := fun h => by
  have := congrArg Fin.val h; rw [dn_val (by omega)] at this; exact absurd this (by simp)

/-- One more member: from what is left of a family to what is done of it. -/
theorem bigSep_above {M : Type} [URA M] {r : ℕ} (hr : r < 31) (Φ : Fin 32 → sProp M) :
    bigSep (above r) Φ = iprop(Φ (dn (r + 1)) ∗ bigSep (above (r + 1)) Φ) := by
  rw [above_succ hr, bigSep_insert (not_mem_above hr)]; rfl
theorem bigSep_done {M : Type} [URA M] {r : ℕ} (hr : r < 31) (Φ : Fin 32 → sProp M) :
    bigSep (done (r + 1)) Φ = iprop(Φ (dn (r + 1)) ∗ bigSep (done r) Φ) := by
  rw [done_succ hr, bigSep_insert (not_mem_done hr)]; rfl

/-- A device named by its position `c + o`. -/
theorem dev_eq {c d : Dev nD} {j : ℕ} (h : d.val = (c.val + j) % 32) : d = c + dn j :=
  Fin.ext (h.trans (by show _ = (c.val + j % 32) % 32; omega))

/-! ## Buffers and views -/

abbrev xA : Memref sig .tc .vmem S8192x256 .f32 := Memref.whole cc0_stg0_0
abbrev wA : Memref sig .tc .hbm S8192x4096 .f32 := Memref.whole main_arg1
abbrev yA : Memref sig .tc .vmem S256x4096 .f32 := Memref.whole cc0_stg1_0
abbrev bA : Memref sig .tc .vmem S8192x256 .bf16 := Memref.whole cc0_scratch0
abbrev gA : Memref sig .tc .vmem S32x256x256 .bf16 := Memref.whole cc0_scratch1
abbrev vA : Memref sig .tc .vmem S2x256x4096 .f32 := Memref.whole cc0_scratch2

theorem bM_inb (t : Dev nD) : ∀ a, (![256 * t.val, 0] : Fin 2 → ℕ) a + S256x256.size a ≤ S8192x256.size a := by revert t; decide +kernel
theorem gM_inb (t : Dev nD) : ∀ a, (![t.val, 0, 0] : Fin 3 → ℕ) a + S1x256x256.size a ≤ S32x256x256.size a := by revert t; decide +kernel
theorem wM_inb (t : Dev nD) : ∀ a, (![256 * t.val, 0] : Fin 2 → ℕ) a + S256x4096.size a ≤ S8192x4096.size a := by revert t; decide +kernel
theorem vM_inb (b : Fin 2) : ∀ a, (![b.val, 0, 0] : Fin 3 → ℕ) a + S1x256x4096.size a ≤ S2x256x4096.size a := by revert b; decide +kernel

/-- Rows `256 t …` of the bf16 copy of `x`; -/
abbrev bM (t : Dev nD) : Memref sig .tc .vmem S256x256 .bf16 :=
  bA.slice (Rect.unit (s := S8192x256) ![256 * t.val, 0] S256x256.size (bM_inb t)) (fun _ => rfl)
/-- slot `t` of the gather buffer, as it is loaded -/
abbrev gR (t : Dev nD) : Rect S32x256x256 := Rect.unit (s := S32x256x256) ![t.val, 0, 0] S1x256x256.size (gM_inb t)
/-- and as a transfer names it; -/
abbrev gM (t : Dev nD) : Memref sig .tc .vmem S256x256 .bf16 :=
  (gA.slice (gR t) (fun _ => rfl)).squeeze S256x256 squeezes_S1x256x256_S256x256
/-- rows `256 t …` of `w`; -/
abbrev wM (t : Dev nD) : Memref sig .tc .hbm S256x4096 .f32 :=
  wA.slice (Rect.unit (s := S8192x4096) ![256 * t.val, 0] S256x4096.size (wM_inb t)) (fun _ => rfl)
/-- slot `b` of the two that hold blocks of `w`, as it is loaded -/
abbrev vR (b : Fin 2) : Rect S2x256x4096 := Rect.unit (s := S2x256x4096) ![b.val, 0, 0] S1x256x4096.size (vM_inb b)
/-- and as a transfer names it. -/
abbrev vM (b : Fin 2) : Memref sig .tc .vmem S256x4096 .f32 :=
  (vA.slice (vR b) (fun _ => rfl)).squeeze S256x4096 squeezes_S1x256x4096_S256x4096

/-! ## Semaphore cells -/

abbrev barS : Sem sig := (SemArray.scalar (sig.barrier 0 rfl) : Sems sig S_).sem
def sendS (o : Fin 32) : DmaSem sig := ⟨2 + o.val, by have := o.isLt; show _ < 68; omega⟩
def recvS (o : Fin 32) : DmaSem sig := ⟨34 + o.val, by have := o.isLt; show _ < 68; omega⟩
def copyS (b : Fin 2) : DmaSem sig := ⟨66 + b.val, by have := b.isLt; show _ < 68; omega⟩

/-- The protocol's cells of a device: the barrier, the 32 send and the 32 receive semaphores. -/
abbrev CI : Type := Unit ⊕ (Fin 32 ⊕ Fin 32)
def csem : CI → SemLoc sig
  | .inl _ => .reg barS
  | .inr (.inl o) => .dma (sendS o)
  | .inr (.inr o) => .dma (recvS o)
abbrev kcell (ck : Dev nD × CI) : GSem nD τ sig := ((ck.1 : Thread nD τ), csem ck.2)
abbrev barCell (c : Dev nD) : GSem nD τ sig := ((c : Thread nD τ), .reg barS)
abbrev sendCell (c : Dev nD) (o : Fin 32) : GSem nD τ sig := ((c : Thread nD τ), .dma (sendS o))
abbrev recvCell (c : Dev nD) (o : Fin 32) : GSem nD τ sig := ((c : Thread nD τ), .dma (recvS o))
abbrev copyCell (c : Dev nD) (b : Fin 2) : GSem nD τ sig := ((c : Thread nD τ), .dma (copyS b))

/-- The credit of a 256 × 256 bf16 block; -/
def N : ℕ := (gM 0).view.dmaCredit
theorem N_pos : 0 < N := View.dmaCredit_pos _ (by decide)
/-- of a 256 × 4096 f32 block. -/
def NW : ℕ := (vM 0).view.dmaCredit
theorem NW_pos : 0 < NW := View.dmaCredit_pos _ (by decide)

/-! ## Contents -/

/-- `x` on device `c`, staged; -/
def xstg (c : Dev nD) : (cc0_stg0_0 : Ref sig .tc).ty.Contents (Elt F) :=
  (win0_0.blk (0 : Fin 1)).view.read (Elt F) ((s₀ m ρ).mem ((c : Thread nD τ).loc main_arg0))
/-- its bf16 copy; -/
def xcast (c : Dev nD) : (cc0_scratch0 : Ref sig .tc).ty.Contents (Elt F) := k0_pay1 (xstg m ρ c)
/-- `w` on device `c`. -/
def wbuf (c : Dev nD) : (main_arg1 : Ref sig .tc).ty.Contents (Elt F) := m ((c : Thread nD τ).loc main_arg1)

/-- The block of device `s`'s bf16 `x` which device `t` multiplies by; -/
def xblk (s t : Dev nD) : S256x256.Idx → Elt F .bf16 := (bM t).view.read (Elt F) (xcast m ρ s)
/-- the rows of `w` (as device `c` holds it) that block meets. -/
def wblk (c s : Dev nD) : S256x4096.Idx → Elt F .f32 := (wM s).view.read (Elt F) (wbuf m c)

/-- Rows `256 t …` of device `c`'s bf16 copy; -/
def bPts (c t : Dev nD) : sProp 𝕄 := (c : Thread nD τ).loc cc0_scratch0 ↦[(bM t).view.set]{fullShare} xcast m ρ c
/-- slot `s` of device `c`'s gather buffer, at contents `f`; -/
def gPts (c s : Dev nD) (f : Buf (Elt F) ((c : Thread nD τ).loc cc0_scratch1)) : sProp 𝕄 :=
  (c : Thread nD τ).loc cc0_scratch1 ↦[(gM s).view.set]{fullShare} f
/-- slot `b` of device `c`'s two, at contents `f`. -/
def vPts (c : Dev nD) (b : Fin 2) (f : Buf (Elt F) ((c : Thread nD τ).loc cc0_scratch2)) : sProp 𝕄 :=
  (c : Thread nD τ).loc cc0_scratch2 ↦[(vM b).view.set]{fullShare} f

instance bPts_storable (c t : Dev nD) : BI.Storable (upEmb : UEmb _ 𝕄) (bPts (F := F) m ρ c t) := by unfold bPts; infer_instance
omit [FloatOps F] in
instance gPts_storable (c s : Dev nD) (f) : BI.Storable (upEmb : UEmb _ 𝕄) (gPts (F := F) c s f) := by unfold gPts; infer_instance

/-! ## The schedule -/

/-- What duty `o` of `t`'s barrier cell, paid by device `t + o`, hands `t`: slot `t` of that device's gather buffer. -/
def barPay (t : Dev nD) (o : Fin 32) : sProp 𝕄 := iprop(∃ f, gPts (t + o) t f)
/-- What the send cell `o` hands back: the rows sent to device `c + o`. -/
def sendPay (c : Dev nD) (o : Fin 32) : sProp 𝕄 := bPts m ρ c (c + o)
/-- What the receive cell `o` of `t` hands `t`: slot `t - o`, holding the rows device `t - o` sent. -/
def recvPay (t : Dev nD) (o : Fin 32) : sProp 𝕄 :=
  iprop(∃ f, ⌜(gM (t - o)).view.read (Elt F) f = xblk m ρ (t - o) t⌝ ∗ gPts t (t - o) f)

/-- The send or receive semaphore a DMA semaphore is: which of the two, and its offset. -/
def decode (q : DmaSem sig) : Option (Bool × Fin 32) :=
  if h : 2 ≤ q.val ∧ q.val < 34 then some (false, ⟨q.val - 2, by omega⟩)
  else if h : 34 ≤ q.val ∧ q.val < 66 then some (true, ⟨q.val - 34, by omega⟩) else none
theorem decode_send (o : Fin 32) : decode (sendS o) = some (false, o) := by revert o; decide
theorem decode_recv (o : Fin 32) : decode (recvS o) = some (true, o) := by revert o; decide

/-- One round: a barrier cell has 31 duties of one unit, a send or receive cell of a positive offset one duty of a block's credit. -/
def meshRd : Rounds.Schedule (GSem nD τ sig) (Fin 32) 𝕄 where
  duties g r := if r = 0 ∧ g.1.2 = .tc then
      (match g.2 with
        | .reg s => if s = barS then above 0 else ∅
        | .dma q => match decode q with
          | some (_, o) => if o = 0 then ∅ else {0}
          | none => ∅)
    else ∅
  unitless _ := False
  amount g _ _ := match g.2 with | .reg _ => 1 | .dma _ => N
  payload g _ d := match g.2 with
    | .reg s => if s = barS then barPay g.1.1 d else iprop(emp)
    | .dma q => match decode q with
      | some (false, o) => sendPay m ρ g.1.1 o
      | some (true, o) => recvPay m ρ g.1.1 o
      | none => iprop(emp)
  amount_pos g _ _ _ := by
    cases h : g.2 with
    | reg s => exact Nat.one_pos
    | dma q => exact N_pos

instance meshRd_payload_storable (g : GSem nD τ sig) (r : ℕ) (d : Fin 32) :
    BI.Storable (upEmb : UEmb _ 𝕄) ((meshRd (F := F) m ρ).payload g r d) := by
  dsimp only [meshRd]
  unfold barPay sendPay recvPay
  (repeat' split) <;> infer_instance

section Sched
variable (c : Dev nD) (o : Fin 32)

theorem duties_bar : (meshRd (F := F) m ρ).duties (barCell c) 0 = above 0 := by
  dsimp only [meshRd]; rw [if_pos ⟨rfl, rfl⟩, if_pos rfl]
theorem duties_send (ho : o ≠ 0) : (meshRd (F := F) m ρ).duties (sendCell c o) 0 = {0} := by
  dsimp only [meshRd]; rw [if_pos ⟨rfl, rfl⟩, decode_send]; exact if_neg ho
theorem duties_recv (ho : o ≠ 0) : (meshRd (F := F) m ρ).duties (recvCell c o) 0 = {0} := by
  dsimp only [meshRd]; rw [if_pos ⟨rfl, rfl⟩, decode_recv]; exact if_neg ho
theorem duties_later (g : GSem nD τ sig) : ∀ r, 1 ≤ r → (meshRd (F := F) m ρ).duties g r = ∅ :=
  fun r hr => by dsimp only [meshRd]; rw [if_neg fun h => by omega]
theorem duties_send0 : ∀ r, 0 ≤ r → (meshRd (F := F) m ρ).duties (sendCell c 0) r = ∅ := fun r _ => by
  dsimp only [meshRd]; rw [decode_send]; split <;> simp
theorem duties_recv0 : ∀ r, 0 ≤ r → (meshRd (F := F) m ρ).duties (recvCell c 0) r = ∅ := fun r _ => by
  dsimp only [meshRd]; rw [decode_recv]; split <;> simp

theorem payload_bar : (meshRd (F := F) m ρ).payload (barCell c) 0 o = barPay c o := by dsimp only [meshRd]; rw [if_pos rfl]
theorem payload_send (d : Fin 32) : (meshRd (F := F) m ρ).payload (sendCell c o) 0 d = sendPay m ρ c o := by dsimp only [meshRd]; rw [decode_send]
theorem payload_recv (d : Fin 32) : (meshRd (F := F) m ρ).payload (recvCell c o) 0 d = recvPay m ρ c o := by dsimp only [meshRd]; rw [decode_recv]

theorem expect_bar : (meshRd (F := F) m ρ).expect (barCell c) 0 = 31 := by
  unfold Schedule.expect Schedule.amountOf
  rw [duties_bar]
  show (∑ d ∈ above 0, 1) = 31
  decide
theorem expect_send (ho : o ≠ 0) : (meshRd (F := F) m ρ).expect (sendCell c o) 0 = N := by
  unfold Schedule.expect Schedule.amountOf; rw [duties_send m ρ c o ho, Finset.sum_singleton]; rfl
theorem expect_recv (ho : o ≠ 0) : (meshRd (F := F) m ρ).expect (recvCell c o) 0 = N := by
  unfold Schedule.expect Schedule.amountOf; rw [duties_recv m ρ c o ho, Finset.sum_singleton]; rfl

/-- The barrier round's payloads together: slot `c` of every other device's gather buffer. -/
theorem rest_bar : bigSep ((meshRd (F := F) m ρ).duties (barCell c) 0 \ ∅) (fun d => (meshRd (F := F) m ρ).payload (barCell c) 0 d)
    = bigSep (above 0) fun o => barPay c o := by
  rw [Finset.sdiff_empty, duties_bar]; exact bigSep_congr fun d _ => payload_bar m ρ c d
theorem rest_send (ho : o ≠ 0) : bigSep ((meshRd (F := F) m ρ).duties (sendCell c o) 0 \ ∅) (fun d => (meshRd (F := F) m ρ).payload (sendCell c o) 0 d)
    = sendPay m ρ c o := by
  rw [Finset.sdiff_empty, duties_send m ρ c o ho, bigSep_singleton, payload_send]
theorem rest_recv (ho : o ≠ 0) : bigSep ((meshRd (F := F) m ρ).duties (recvCell c o) 0 \ ∅) (fun d => (meshRd (F := F) m ρ).payload (recvCell c o) 0 d)
    = recvPay m ρ c o := by
  rw [Finset.sdiff_empty, duties_recv m ρ c o ho, bigSep_singleton, payload_recv]

end Sched

/-! ## What a device owes, and the levels -/

/-- The barrier units still to be paid once the first `r` signals are sent; -/
def Obar (c : Dev nD) (r : ℕ) : CellTallies nD τ sig Unit := ∑ o ∈ above r, tallyAt (barCell (c + o)) () 1
/-- the receive credits still to be paid once the first `r` blocks are sent. -/
def Orecv (c : Dev nD) (r : ℕ) : CellTallies nD τ sig Unit := ∑ o ∈ above r, tallyAt (recvCell (c + o) o) () N
/-- All a device owes at launch. -/
def O₀ (c : Dev nD) : CellTallies nD τ sig Unit := Orecv c 0 + Obar c 0

theorem Obar_succ (c : Dev nD) {r : ℕ} (hr : r < 31) : Obar c r = Obar c (r + 1) + tallyAt (barCell (c + dn (r + 1))) () 1 := by
  unfold Obar; rw [above_succ hr, Finset.sum_insert (not_mem_above hr), add_comm]
theorem Orecv_succ (c : Dev nD) {r : ℕ} (hr : r < 31) :
    Orecv c r = Orecv c (r + 1) + tallyAt (recvCell (c + dn (r + 1)) (dn (r + 1))) () N := by
  unfold Orecv; rw [above_succ hr, Finset.sum_insert (not_mem_above hr), add_comm]
theorem Obar_31 (c : Dev nD) : Obar c 31 = 0 := by unfold Obar; rw [above_31, Finset.sum_empty]
theorem Orecv_31 (c : Dev nD) : Orecv c 31 = 0 := by unfold Orecv; rw [above_31, Finset.sum_empty]

theorem sum_tally_apply {S : Finset (Fin 32)} (f : Fin 32 → GSem nD τ sig) (k : ℕ) (g : GSem nD τ sig) (u : Unit) :
    (∑ o ∈ S, (tallyAt (f o) () k : CellTallies nD τ sig Unit)) g u = ∑ o ∈ S, if g = f o then k else 0 := by
  classical
  induction S using Finset.induction_on with
  | empty => simp
  | insert a S ha ih =>
    rw [Finset.sum_insert ha, Finset.sum_insert ha, Pi.add_apply, Finsupp.add_apply, ih, tallyAt_apply]
    congr 1
    by_cases h : g = f a
    · rw [if_pos h, if_pos ⟨h, rfl⟩]
    · rw [if_neg h, if_neg fun h' => h h'.1]

theorem Orecv_pos {c : Dev nD} {r : ℕ} {g : GSem nD τ sig} {u : Unit} (h : 0 < Orecv c r g u) : ∃ o, g = recvCell (c + o) o := by
  unfold Orecv at h; rw [sum_tally_apply] at h
  by_contra hn
  rw [not_exists] at hn
  rw [Finset.sum_eq_zero fun o _ => if_neg (hn o)] at h
  exact Nat.lt_irrefl 0 h
theorem Obar_pos {c : Dev nD} {r : ℕ} {g : GSem nD τ sig} {u : Unit} (h : 0 < Obar c r g u) : ∃ o, g = barCell (c + o) := by
  unfold Obar at h; rw [sum_tally_apply] at h
  by_contra hn
  rw [not_exists] at hn
  rw [Finset.sum_eq_zero fun o _ => if_neg (hn o)] at h
  exact Nat.lt_irrefl 0 h
theorem O₀_pos {c : Dev nD} {g : GSem nD τ sig} {u : Unit} (h : 0 < O₀ c g u) : (∃ o, g = recvCell (c + o) o) ∨ ∃ o, g = barCell (c + o) := by
  unfold O₀ at h
  rw [Pi.add_apply, Finsupp.add_apply] at h
  rcases Nat.eq_zero_or_pos (Orecv c 0 g u) with h0 | h0
  · rw [h0, Nat.zero_add] at h; exact .inr (Obar_pos h)
  · exact .inl (Orecv_pos h0)

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => match decode q with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (o : Fin 32) (u : Unit) : lv (recvCell c o) u = 2 := by dsimp only [lv]; rw [decode_recv]

/-- A wait on a staging semaphore is allowed whatever a device owes: it lies below all of it. -/
theorem mayWait_stage (c : Dev nD) (q : DmaSem sig) (hq : decode q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, rfl⟩ | ⟨o, rfl⟩ <;> exact Finset.mem_singleton_self _)
      (fun p hp => by rw [Finset.mem_singleton.mp hp]; dsimp only [lv]; rw [hq])
      (fun g u hg => by
        rcases O₀_pos hg with ⟨o, rfl⟩ | ⟨o, rfl⟩
        · rw [lv_recv]; decide
        · rw [lv_bar]; decide)
  · rw [MayWait_zero]; iintro -; iempintro

/-- At its barrier wait a device owes receive credits only, which lie above its barrier cell. -/
theorem mayWait_bar (c : Dev nD) : (levAts L lv : sProp 𝕄) ⊢ MayWait (c : Thread nD τ) (.reg barS) () (Orecv c 0) :=
  MayOwe.of_cut (L := L) (lev := lv) 1 (fun p hp => by rw [Finset.mem_singleton.mp hp, L_tc]; exact Finset.mem_singleton_self _)
    (fun g u hg => by obtain ⟨o, rfl⟩ := Orecv_pos hg; exact Finset.mem_singleton_self _)
    (fun p hp => by rw [Finset.mem_singleton.mp hp]; exact le_of_eq rfl)
    (fun g u hg => by obtain ⟨o, rfl⟩ := Orecv_pos hg; rw [lv_recv]; decide)

/-! ## What every device knows: the cells' invariants, that they have reached round 0, and the levels -/

def recs (K : Dev nD × CI → ℕ) : sProp 𝕄 :=
  iprop((bigSep Finset.univ fun ck : Dev nD × CI => cellInv ER (meshRd m ρ) (K ck) (kcell ck))
    ∗ (bigSep Finset.univ fun ck : Dev nD × CI => reached ER (kcell ck) 0) ∗ levAts L lv)

instance recs_persistent (K : Dev nD × CI → ℕ) : BI.Persistent (recs (F := F) m ρ K) := by unfold recs; infer_instance

theorem recs_inv (K : Dev nD × CI → ℕ) (ck : Dev nD × CI) : recs m ρ K ⊢ cellInv ER (meshRd (F := F) m ρ) (K ck) (kcell ck) := by
  have h : (bigSep Finset.univ fun ck : Dev nD × CI => (cellInv ER (meshRd (F := F) m ρ) (K ck) (kcell ck) : sProp 𝕄)) ⊢ cellInv ER (meshRd m ρ) (K ck) (kcell ck) :=
    bigSep_elim (Finset.mem_univ ck)
  unfold recs
  iintro ⟨#H, -, -⟩
  iapply h; iexact H
theorem recs_reached (K : Dev nD × CI → ℕ) (ck : Dev nD × CI) : recs (F := F) m ρ K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold recs
  iintro ⟨-, #H, -⟩
  iapply h; iexact H
theorem recs_mayWait (K : Dev nD × CI → ℕ) (c : Dev nD) : recs (F := F) m ρ K ⊢ MayWait (c : Thread nD τ) (.reg barS) () (Orecv c 0) := by
  unfold recs
  iintro ⟨-, -, #H⟩
  iapply (mayWait_bar c); iexact H

/-- A device owes `O`, having waited on whatever it has. -/
def OW (c : Dev nD) (O : CellTallies nD τ sig Unit) : sProp 𝕄 := iprop(∃ W, owes (c : Thread nD τ) O W)

abbrev 𝒱₀ : Variants := Variants.none

end Cert.KernelIdealProof

end
-- ==== Proof.StepsKernelIdeal.lean ====
/-
One lemma for each kind of step the kernel's body takes: the states a device passes through, each counted by how many
signals, sends, blocks or waits are done, and how one signal, transfer, wait, load or store takes one state to the next.
-/
module

public import proofs.«01_k».proof.Proof.ProtoKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- The weakest precondition of a piece of the body on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev EC : UEmb Counters (MT nD τ sig Unit (Elt F) ℕ UU ℕ) := countersEmb

variable {α : Type} {Q : α → sProp (MT nD τ sig Unit (Elt F) ℕ UU ℕ)} {k : PUnit → Prog (TpuEff nD τ sig (Elt F) Λ₀ .tc) α} {R : sProp (MT nD τ sig Unit (Elt F) ℕ UU ℕ)}

/-! ## The signals -/

/-- The first `r` signals are sent: their duties and the slots they hand over are left for the others. -/
def SA (r : ℕ) : sProp 𝕄 :=
  iprop(recs m ρ K ∗ OW c (Orecv c 0 + Obar c r)
    ∗ bigSep (above r) fun o => iprop(dutyTok ER (barCell (c + o)) 0 (-o) ∗ ∃ f, gPts (F := F) c (c + o) f))

/-- A signal to device `c + (r + 1)`. -/
theorem step_signal {r : ℕ} (hr : r < 31) {n : Dev nD} (hn : n.val = (c.val + (r + 1)) % 32) {z : ℤ} (hz : z = ((1 : ℕ) : ℤ))
    (h : iprop(SA m ρ K c (r + 1) ∗ R) ⊢ run c (k ⟨⟩) Q) :
    iprop(SA m ρ K c r ∗ R) ⊢ run c (.op (.semSignal (n, .tc) barS z) k) Q := by
  obtain rfl := dev_eq hn
  subst hz
  have hne : -dn (r + 1) ≠ 0 := neg_ne_zero.mpr (dn_ne_zero hr)
  have hin : -dn (r + 1) ∈ (meshRd (F := F) m ρ).duties (barCell (c + dn (r + 1))) 0 := by
    rw [duties_bar, mem_above]; exact Nat.pos_of_ne_zero fun h0 => hne (Fin.ext h0)
  unfold SA OW at h ⊢
  rw [bigSep_above hr]
  iintro ⟨⟨#HI, ⟨%W, HO⟩, ⟨Htok, ⟨%f, Hg⟩⟩, Hrest⟩, HR⟩
  iapply (Rounds.wp_signal 𝒱₀ ER (meshRd m ρ) (c : Thread nD τ) none (dst := ((c + dn (r + 1) : Dev nD) : Thread nD τ)) (κ := K (c + dn (r + 1), .inl ()))
      (r := 0) (d := -dn (r + 1)) (k' := 1) hin rfl () (O₀ := Orecv c 0 + Obar c r) (Orecv c 0 + Obar c (r + 1)) (by rw [Obar_succ c hr, add_assoc])) $$ [HO Htok Hg]
  · isplitr; · iapply (recs_inv m ρ K (c + dn (r + 1), .inl ())); iexact HI
    isplitl [HO]; · iexact HO
    isplitl [Htok]; · iexact Htok
    isplitl [Hg]
    · rw [payload_bar]; unfold barPay; rw [add_neg_cancel_right]
      iexists f; iexact Hg
    iapply (recs_reached m ρ K (c + dn (r + 1), .inl ())); iexact HI
  iintro HO
  iapply h
  isplitr [HR]
  · isplitr; · iexact HI
    isplitl [HO]; · iexists W; iexact HO
    iexact Hrest
  iexact HR

/-- Past the barrier: every other device's slot `c` is in hand. -/
def SB : sProp 𝕄 :=
  iprop(recs m ρ K ∗ OW c (Orecv c 0) ∗ atPos ER (barCell c) 1 ∅ 0 ∗ bigSep (above 0) fun o => barPay (F := F) c o)

/-- The wait for the 31 signals. -/
theorem step_barrier {z : ℤ} (hz : z = ((31 : ℕ) : ℤ)) (h : iprop(SB m ρ K c ∗ R) ⊢ run c (k ⟨⟩) Q) :
    iprop(SA m ρ K c 31 ∗ cred (tallyAt (barCell c) () 31) ∗ atPos ER (barCell c) 0 ∅ 0 ∗ R) ⊢ run c (.op (.semWait barS z) k) Q := by
  subst hz
  unfold SA SB OW at *
  rw [Obar_31, add_zero]
  iintro ⟨⟨#HI, ⟨%W, HO⟩, -⟩, Hcr, Hat, HR⟩
  iapply (Rounds.wp_wait_rest_token 𝒱₀ ER (meshRd m ρ) (c : Thread nD τ) none (κ := K (c, .inl ()))
      (wpE_semWait_eq 𝒱₀ (c : Thread nD τ) none Set.univ) (Set.mem_univ _) () (O := Orecv c 0) (W := W) (R := 0) (m := 0) (T := ∅)
      (by rw [expect_bar])) $$ [Hcr HO Hat]
  · isplitr; · iapply (recs_inv m ρ K (c, .inl ())); iexact HI
    isplitl [Hcr]; · iexact Hcr
    isplitl [HO]; · iexact HO
    isplitr; · iapply (recs_mayWait m ρ K c); iexact HI
    iexact Hat
  iintro ⟨HO, Hat, -, Hpay⟩
  ihave Hp := (Entails.of_eq (rest_bar m ρ c)) $$ Hpay
  iapply h
  isplitr [HR]
  · isplitr; · iexact HI
    isplitl [HO]; · iexists _; iexact HO
    isplitl [Hat]; · iexact Hat
    iexact Hp
  iexact HR

/-! ## The sends -/

/-- The first `r` blocks are sent: the rows, slots and duties of the others are left, and the credits to collect for those sent. -/
def SD (r : ℕ) : sProp 𝕄 :=
  iprop(recs m ρ K ∗ OW c (Orecv c r)
    ∗ (bigSep (above r) fun o => iprop(bPts m ρ c (c + o) ∗ barPay (F := F) c o ∗ dutyTok ER (sendCell c o) 0 0 ∗ dutyTok ER (recvCell (c + o) o) 0 0))
    ∗ bigSep (done r) fun o => cred (tallyAt (sendCell c o) () N))

/-- The transfer of rows `256 (c + r + 1) …` to slot `c` of device `c + (r + 1)`. -/
theorem step_send {r : ℕ} (hr : r < 31) {n : Dev nD} (hn : n.val = (c.val + (r + 1)) % 32)
    {ob : Fin 2 → ℕ} {hob : ∀ a, ob a + S256x256.size a ≤ S8192x256.size a} (eb : ob = ![256 * ((c.val + (r + 1)) % 32), 0])
    {og : Fin 3 → ℕ} {hog : ∀ a, og a + S1x256x256.size a ≤ S32x256x256.size a} (eg : og = ![c.val, 0, 0])
    {s₁ s₂ : DmaSem sig} (e₁ : s₁ = sendS (dn (r + 1))) (e₂ : s₂ = recvS (dn (r + 1)))
    {hsc} {hsrc} {hdst} {hsem}
    (h : iprop(SD m ρ K c (r + 1) ∗ R) ⊢ run c (k ⟨⟩) Q) :
    iprop(SD m ρ K c r ∗ R) ⊢ run c (.op (.enqueueDma
      (bA.slice (Rect.unit (s := S8192x256) ob S256x256.size hob) (fun _ => rfl))
      (.remote (Dev.tc n : Thread nD τ) ((gA.slice (Rect.unit (s := S32x256x256) og S1x256x256.size hog) (fun _ => rfl)).squeeze S256x256 squeezes_S1x256x256_S256x256)
        (.dma s₁) hsc) (.dma s₂) hsrc hdst hsem) k) Q := by
  have hv : (c + dn (r + 1)).val = (c.val + (r + 1)) % 32 := by
    show (c.val + (r + 1) % 32) % 32 = _; omega
  obtain rfl := dev_eq hn
  rw [← hv] at eb
  subst eb eg e₁ e₂
  have ho := dn_ne_zero hr
  unfold SD OW at h ⊢
  rw [bigSep_above hr]
  rw [bigSep_done hr] at h
  iintro ⟨⟨#HI, ⟨%W, HO⟩, ⟨⟨Hb, Hg, Ht₁, Ht₂⟩, Hrest⟩, Hdone⟩, HR⟩
  unfold barPay
  icases Hg with ⟨%f, Hg⟩
  unfold bPts gPts
  iapply (Rounds.wp_send_pointsTo 𝒱₀ ER (meshRd m ρ) (c : Thread nD τ) none (c' := ((c + dn (r + 1) : Dev nD) : Thread nD τ))
      (src := bM (c + dn (r + 1))) (dst := gM c) (sS := .dma (sendS (dn (r + 1)))) (sem := .dma (recvS (dn (r + 1))))
      (κ₁ := K (c, .inr (.inl (dn (r + 1))))) (κ₂ := K (c + dn (r + 1), .inr (.inr (dn (r + 1)))))
      (r₁ := 0) (r₂ := 0) (d₁ := 0) (d₂ := 0) (fs := xcast m ρ c) (fd := f)
      (by rw [duties_send m ρ c _ ho]; exact Finset.mem_singleton_self _) (by rw [duties_recv m ρ _ _ ho]; exact Finset.mem_singleton_self _)
      () () N rfl rfl rfl (O₀ := Orecv c r) (Orecv c (r + 1)) (Orecv_succ c hr) (W := W)
      (by rw [payload_send]; exact BI.Entails.refl _)
      (by
        rw [payload_recv]; unfold recvPay gPts; rw [add_sub_cancel_right]
        iintro H
        iexists ((gM c).view.write (Elt F) f (xblk m ρ c (c + dn (r + 1))) Finset.univ)
        isplitr
        · ipureintro; exact View.read_write_univ _ _
        iexact H)) $$ [Hb Hg HO Ht₁ Ht₂]
  · isplitr; · iapply (recs_inv m ρ K (c, .inr (.inl (dn (r + 1))))); iexact HI
    isplitr; · iapply (recs_inv m ρ K (c + dn (r + 1), .inr (.inr (dn (r + 1))))); iexact HI
    isplitl [Hb]; · iexact Hb
    isplitl [Hg]; · iexact Hg
    isplitl [HO]; · iexact HO
    isplitl [Ht₁]; · iexact Ht₁
    isplitr; · iapply (recs_reached m ρ K (c, .inr (.inl (dn (r + 1))))); iexact HI
    isplitl [Ht₂]; · iexact Ht₂
    iapply (recs_reached m ρ K (c + dn (r + 1), .inr (.inr (dn (r + 1))))); iexact HI
  iintro ⟨Hcr, HO⟩
  iapply h
  isplitr [HR]
  · isplitr; · iexact HI
    isplitl [HO]; · iexists W; iexact HO
    isplitl [Hrest]; · iexact Hrest
    isplitl [Hcr]; · iexact Hcr
    iexact Hdone
  iexact HR

/-! ## The blocks of `w` -/

/-- The slot block `j` goes to. -/
def sl (j : ℕ) : Fin 2 := ⟨j % 2, Nat.mod_lt _ (by decide)⟩
/-- Half of the right to read `w` for each slot. -/
def hh (b : Fin 2) : PosShare TreeShare := if b = 0 then (fullShare : PosShare TreeShare).left else (fullShare : PosShare TreeShare).right
/-- `w` whole, read through slot `b`'s half; -/
def wPts (b : Fin 2) : sProp 𝕄 := (c : Thread nD τ).loc main_arg1 ↦{hh b} wbuf m c
/-- the slot of block `j`, holding it; -/
def wIn (j : ℕ) : sProp 𝕄 := iprop(∃ f, ⌜(vM (sl j)).view.read (Elt F) f = wblk m c (c - dn j)⌝ ∗ vPts c (sl j) f)
/-- block `j` on its way into its slot; -/
def Fl (j : ℕ) : sProp 𝕄 := Transfers.Flight EC (c : Thread nD τ) (.dma (copyS (sl j))) () NW iprop(wIn m c j ∗ wPts m c (sl j))
/-- block `j` arrived; -/
def Held (j : ℕ) : sProp 𝕄 := iprop(wIn m c j ∗ semVal (copyCell c (sl j)) 0 ∗ wPts m c (sl j))
/-- slot `b` free. -/
def Free (b : Fin 2) : sProp 𝕄 := iprop((∃ f, vPts (F := F) c b f) ∗ semVal (copyCell c b) 0 ∗ wPts m c b)

theorem held_free (j : ℕ) : Held m c j ⊢ Free m c (sl j) := by
  unfold Held Free wIn
  iintro ⟨⟨%f, -, H⟩, H2⟩
  isplitl [H]; · iexists f; iexact H
  iexact H2

/-- The start of the copy of block `j`. -/
theorem step_fetch_core (j : ℕ) {b : Fin 2} (hb : b = sl j)
    {ow : Fin 2 → ℕ} {how : ∀ a, ow a + S256x4096.size a ≤ S8192x4096.size a} (ew : ow = ![256 * (c - dn j).val, 0])
    {ov : Fin 3 → ℕ} {hov : ∀ a, ov a + S1x256x4096.size a ≤ S2x256x4096.size a} (ev : ov = ![(sl j).val, 0, 0])
    {s₁ : DmaSem sig} (e₁ : s₁ = copyS (sl j))
    {hsrc} {hdst} {hsem}
    (h : iprop(Fl m c j ∗ R) ⊢ run c (k ⟨⟩) Q) :
    iprop(Free m c b ∗ R) ⊢ run c (.op (.enqueueDma
      (wA.slice (Rect.unit (s := S8192x4096) ow S256x4096.size how) (fun _ => rfl))
      (.here ((vA.slice (Rect.unit (s := S2x256x4096) ov S1x256x4096.size hov) (fun _ => rfl)).squeeze S256x4096 squeezes_S1x256x4096_S256x4096))
        (.dma s₁) hsrc hdst hsem) k) Q := by
  subst hb ew ev e₁
  unfold Free vPts wPts
  iintro ⟨⟨⟨%f, Hv⟩, Hs, Hw⟩, HR⟩
  iapply (Transfers.wp_dmaFromWhole EC 𝒱₀ (c : Thread nD τ) none (src := wM (c - dn j)) (dst := vM (sl j)) (fd := f) (Sd := (vM (sl j)).view.set) () NW rfl NW_pos (Finset.Subset.refl _)) $$ [Hv Hs Hw]
  · isplitl [Hw]; · iexact Hw
    isplitl [Hv]; · iexact Hv
    iexact Hs
  iintro HF
  iapply h
  isplitl [HF]
  · unfold Fl
    iapply (Transfers.Flight_mono EC (c : Thread nD τ) ?_) $$ HF
    unfold wIn wPts vPts
    iintro ⟨Hv, Hw⟩
    isplitl [Hv]
    · iexists ((vM (sl j)).view.write (Elt F) f (wblk m c (c - dn j)) Finset.univ)
      isplitr
      · ipureintro; exact View.read_write_univ _ _
      iexact Hv
    iexact Hw
  iexact HR

/-! ## The loop over the blocks -/

/-- What a load of slot `s` of the gather buffer returns once the block is there; -/
def xgv (j : ℕ) : Vec F S1x256x256 .bf16 := shapeCast S1x256x256 (xblk m ρ (c - dn j) c) (by decide)
/-- of the slot of block `j` of `w`; -/
def wv (j : ℕ) : Vec F S1x256x4096 .f32 := shapeCast S1x256x4096 (wblk m c (c - dn j)) (by decide)

abbrev xR : Rect S8192x256 := Rect.unit (s := S8192x256) ![256 * c.val, 0] S256x256.size (bM_inb c)
/-- of the device's own rows of `x`. -/
def xown : Vec F S256x256 .f32 := xA.view.readAt (Elt F) (xR c).toLoadRect (xstg m ρ c)

/-- The accumulator after block `j`. -/
def acc : ℕ → Vec F S256x4096 .f32
  | 0 => k0_pay2 (xown m ρ c) (wv m c 0)
  | j + 1 => k0_pay3 (xgv m ρ c (j + 1)) (wv m c (j + 1)) (acc j)

/-- `x` staged; -/
def xPts : sProp 𝕄 := (c : Thread nD τ).loc cc0_stg0_0 ↦{fullShare} xstg m ρ c
/-- the accumulator's buffer. -/
def yPts (y : Vec F S256x4096 .f32) : sProp 𝕄 := (c : Thread nD τ).loc cc0_stg1_0 ↦{fullShare} y

/-- Within the loop: `w` says where the blocks of `w` are, the first `b` blocks of `x` have been waited for, the accumulator holds `y`. -/
def LP (w : sProp 𝕄) (b : ℕ) (y : Vec F S256x4096 .f32) : sProp 𝕄 :=
  iprop(recs m ρ K ∗ OW c 0 ∗ w
    ∗ (bigSep (above b) fun o => iprop(atPos ER (recvCell c o) 0 ∅ 0 ∗ cred (tallyAt (recvCell c o) () N)))
    ∗ (bigSep (done b) fun o => iprop(atPos ER (recvCell c o) 1 ∅ 0 ∗ recvPay m ρ c o))
    ∗ xPts m ρ c ∗ yPts c y)

variable {X : sProp (MT nD τ sig Unit (Elt F) ℕ UU ℕ)} {b : ℕ} {y : Vec F S256x4096 .f32}

theorem sub_dn_val (j : ℕ) : (c - dn j).val = (c.val + (32 - j % 32)) % 32 := by
  show ((32 - (j % 32)) + c.val) % 32 = _
  rw [Nat.add_comm]

/-- Block `j + 1` of `w` starts into the free slot. -/
theorem step_fetch (j : ℕ) {f : Fin 2} (hf : f = sl (j + 1))
    {ow : Fin 2 → ℕ} {how : ∀ a, ow a + S256x4096.size a ≤ S8192x4096.size a} (ew : ow = ![256 * ((c.val + (32 - (j + 1) % 32)) % 32), 0])
    {ov : Fin 3 → ℕ} {hov : ∀ a, ov a + S1x256x4096.size a ≤ S2x256x4096.size a} (ev : ov = ![(sl (j + 1)).val, 0, 0])
    {s₁ : DmaSem sig} (e₁ : s₁ = copyS (sl (j + 1)))
    {hsrc} {hdst} {hsem}
    (h : iprop(LP m ρ K c iprop(Fl m c j ∗ Fl m c (j + 1)) b y ∗ R) ⊢ run c (k ⟨⟩) Q) :
    iprop(LP m ρ K c iprop(Fl m c j ∗ Free m c f) b y ∗ R) ⊢ run c (.op (.enqueueDma
      (wA.slice (Rect.unit (s := S8192x4096) ow S256x4096.size how) (fun _ => rfl))
      (.here ((vA.slice (Rect.unit (s := S2x256x4096) ov S1x256x4096.size hov) (fun _ => rfl)).squeeze S256x4096 squeezes_S1x256x4096_S256x4096))
        (.dma s₁) hsrc hdst hsem) k) Q := by
  have key := step_fetch_core m c (j + 1) hf (how := how) (hov := hov) (by rw [ew, ← sub_dn_val]) ev e₁ (hsrc := hsrc) (hdst := hdst) (hsem := hsem) (k := k) (Q := Q)
    (R := iprop(LP m ρ K c (Fl m c j) b y ∗ R)) (by
      refine BIBase.Entails.trans ?_ h
      unfold LP
      iintro ⟨Hf, ⟨HI, HO, Hw, H1, H2, H3, H4⟩, HR⟩
      isplitr [HR]
      · isplitl [HI]; · iexact HI
        isplitl [HO]; · iexact HO
        isplitl [Hw Hf]
        · isplitl [Hw] <;> iassumption
        isplitl [H1]; · iexact H1
        isplitl [H2]; · iexact H2
        isplitl [H3] <;> iassumption
      iexact HR)
  refine BIBase.Entails.trans ?_ key
  unfold LP
  iintro ⟨⟨HI, HO, ⟨Hw, Hf⟩, H1, H2, H3, H4⟩, HR⟩
  isplitl [Hf]; · iexact Hf
  isplitr [HR]
  · isplitl [HI]; · iexact HI
    isplitl [HO]; · iexact HO
    isplitl [Hw]; · iexact Hw
    isplitl [H1]; · iexact H1
    isplitl [H2]; · iexact H2
    isplitl [H3] <;> iassumption
  iexact HR

/-- The wait for block `j` of `w`. -/
theorem step_wait_w (j : ℕ) {s₁ : DmaSem sig} (e₁ : s₁ = copyS (sl j)) {sp' : Space} {s' : Shape} {e' : EltTy} {srcw : Memref sig .tc sp' s' e'}
    {sp : Space} {s : Shape} {e : EltTy} {dstw : Memref sig .tc sp s e} (hN : dstw.view.dmaCredit = NW) {hsrc} {hdst}
    (h : iprop(LP m ρ K c iprop(Held m c j ∗ X) b y ∗ R) ⊢ run c (k ⟨⟩) Q) :
    iprop(LP m ρ K c iprop(Fl m c j ∗ X) b y ∗ R) ⊢ run c (.op (.waitDma2 s₁ srcw dstw hsrc hdst) k) Q := by
  subst e₁
  unfold LP OW Fl at *
  iintro ⟨⟨HI, ⟨%W, HO⟩, ⟨Hf, HX⟩, H1, H2, H3, H4⟩, HR⟩
  iapply (Transfers.wp_waitLocal EC 𝒱₀ (c : Thread nD τ) none () hN) $$ [Hf HO]
  · isplitl [Hf] <;> iassumption
  iintro ⟨⟨Hv, Hw⟩, Hs, HO⟩
  iapply h
  unfold Held
  isplitr [HR]
  · isplitl [HI]; · iexact HI
    isplitl [HO]; · iexists _; iexact HO
    isplitl [Hv Hw Hs HX]
    · isplitr [HX]
      · isplitl [Hv]; · iexact Hv
        isplitl [Hs] <;> iassumption
      iexact HX
    isplitl [H1]; · iexact H1
    isplitl [H2]; · iexact H2
    isplitl [H3] <;> iassumption
  iexact HR

/-- The wait for the block of `x` at offset `b + 1`. -/
theorem step_wait_recv (hb : b < 31) {s₁ : DmaSem sig} (e₁ : s₁ = recvS (dn (b + 1))) {sp' : Space} {s' : Shape} {e' : EltTy} {srcw : Memref sig .tc sp' s' e'}
    {sp : Space} {s : Shape} {e : EltTy} {dstw : Memref sig .tc sp s e} (hN : dstw.view.dmaCredit = N) {hsrc} {hdst}
    (h : iprop(LP m ρ K c X (b + 1) y ∗ R) ⊢ run c (k ⟨⟩) Q) :
    iprop(LP m ρ K c X b y ∗ R) ⊢ run c (.op (.waitDma2 s₁ srcw dstw hsrc hdst) k) Q := by
  subst e₁
  have ho := dn_ne_zero hb
  unfold LP OW at *
  rw [bigSep_above hb]
  rw [bigSep_done hb] at h
  iintro ⟨⟨#HI, ⟨%W, HO⟩, HX, ⟨⟨Hat, Hcr⟩, H1⟩, H2, H3, H4⟩, HR⟩
  iapply (Rounds.wp_wait_rest_token 𝒱₀ ER (meshRd m ρ) (c : Thread nD τ) none (κ := K (c, .inr (.inr (dn (b + 1)))))
      (wpE_waitDma2_eq 𝒱₀ (c : Thread nD τ) none Set.univ) (Set.mem_univ _) () (O := 0) (W := W) (R := 0) (m := 0) (T := ∅)
      (by rw [Nat.zero_add, expect_recv m ρ c _ ho]; exact hN)) $$ [Hcr HO Hat]
  · isplitr; · iapply (recs_inv m ρ K (c, .inr (.inr (dn (b + 1))))); iexact HI
    isplitl [Hcr]; · rw [hN]; iexact Hcr
    isplitl [HO]; · iexact HO
    isplitr; · rw [MayWait_zero]; iempintro
    iexact Hat
  iintro ⟨HO, Hat, -, Hpay⟩
  ihave Hp := (Entails.of_eq (rest_recv m ρ c _ ho)) $$ Hpay
  iapply h
  isplitr [HR]
  · isplitr; · iexact HI
    isplitl [HO]; · iexists _; iexact HO
    isplitl [HX]; · iexact HX
    isplitl [H1]; · iexact H1
    isplitl [Hat Hp H2]
    · isplitl [Hat Hp]
      · isplitl [Hat] <;> iassumption
      iexact H2
    isplitl [H3] <;> iassumption
  iexact HR

/-- The load of the device's own rows of `x`. -/
theorem step_load_own {ox : Fin 2 → ℕ} {hox : ∀ a, ox a + S256x256.size a ≤ S8192x256.size a} (ex : ox = ![256 * c.val, 0]) {hl}
    {k : Vec F S256x256 .f32 → Prog (TpuEff nD τ sig (Elt F) Λ₀ .tc) α}
    (h : iprop(LP m ρ K c X b y ∗ R) ⊢ run c (k (xown m ρ c)) Q) :
    iprop(LP m ρ K c X b y ∗ R) ⊢ run c (.op (.load xA (Rect.unit (s := S8192x256) ox S256x256.size hox).toLoadRect hl) k) Q := by
  subst ex
  unfold LP xPts at *
  iintro ⟨⟨HI, HO, HX, H1, H2, H3, H4⟩, HR⟩
  iapply (wp_load 𝒱₀ (c : Thread nD τ) none Set.univ (m := xA) (Finset.subset_univ _)) $$ H3
  iintro H3
  iapply h
  isplitr [HR]
  · isplitl [HI]; · iexact HI
    isplitl [HO]; · iexact HO
    isplitl [HX]; · iexact HX
    isplitl [H1]; · iexact H1
    isplitl [H2]; · iexact H2
    isplitl [H3] <;> iassumption
  iexact HR

theorem hz : (![0, 0] : Fin 2 → Nat) = fun _ => 0 := funext fun a => by fin_cases a <;> rfl
abbrev yR : Rect S256x4096 := Rect.unit (s := S256x4096) ![0, 0] S256x4096.size inb_S256x4096_S256x4096_0_0

/-- The load of the accumulator. -/
theorem step_load_y {hl} {k : Vec F S256x4096 .f32 → Prog (TpuEff nD τ sig (Elt F) Λ₀ .tc) α}
    (h : iprop(LP m ρ K c X b y ∗ R) ⊢ run c (k y) Q) :
    iprop(LP m ρ K c X b y ∗ R) ⊢ run c (.op (.load yA yR.toLoadRect hl) k) Q := by
  unfold LP yPts at *
  iintro ⟨⟨HI, HO, HX, H1, H2, H3, H4⟩, HR⟩
  iapply (wp_load 𝒱₀ (c : Thread nD τ) none Set.univ (m := yA) (Finset.subset_univ _)) $$ H4
  iintro H4
  rw [show yA.view.readAt (Elt F) yR.toLoadRect y = y from Memref.readAt_unit_zero (Elt F) cc0_stg1_0 hz _ y]
  iapply h
  isplitr [HR]
  · isplitl [HI]; · iexact HI
    isplitl [HO]; · iexact HO
    isplitl [HX]; · iexact HX
    isplitl [H1]; · iexact H1
    isplitl [H2]; · iexact H2
    isplitl [H3] <;> iassumption
  iexact HR

theorem g_sub (s : Dev nD) : gA.view.setOn (gR s).toLoadRect.set ⊆ (gM s).view.set := by
  rw [Memref.set_view_squeeze]
  show _ ⊆ (gA.view.slice (gR s)).set
  rw [View.set_slice]; exact Finset.Subset.refl _
theorem v_sub (s : Fin 2) : vA.view.setOn (vR s).toLoadRect.set ⊆ (vM s).view.set := by
  rw [Memref.set_view_squeeze]
  show _ ⊆ (vA.view.slice (vR s)).set
  rw [View.set_slice]; exact Finset.Subset.refl _

theorem g_casts : S1x256x256.ShapeCasts S256x256 := by decide
theorem w_casts : S1x256x4096.ShapeCasts S256x4096 := by decide

/-- One member of a family set apart from the rest. -/
theorem bigSep_take {M : Type} [URA M] {S : Finset (Fin 32)} {i : Fin 32} (hi : i ∈ S) (Φ : Fin 32 → sProp M) :
    bigSep S Φ = iprop(Φ i ∗ bigSep (S.erase i) Φ) := bigSep_erase hi

/-- The load of the block of `x` at offset `j`, which has arrived. -/
theorem step_load_x (j : ℕ) (hj : 0 < j ∧ j ≤ b) (hb : b < 32)
    {og : Fin 3 → ℕ} {hog : ∀ a, og a + S1x256x256.size a ≤ S32x256x256.size a} (eg : og = ![(c.val + (32 - j % 32)) % 32, 0, 0]) {hl}
    {k : Vec F S1x256x256 .bf16 → Prog (TpuEff nD τ sig (Elt F) Λ₀ .tc) α}
    (h : iprop(LP m ρ K c X b y ∗ R) ⊢ run c (k (xgv m ρ c j)) Q) :
    iprop(LP m ρ K c X b y ∗ R) ⊢ run c (.op (.load gA (Rect.unit (s := S32x256x256) og S1x256x256.size hog).toLoadRect hl) k) Q := by
  rw [← sub_dn_val] at eg
  subst eg
  have hmem : dn j ∈ done b := by rw [mem_done, dn_val (by omega)]; exact hj
  unfold LP at *
  rw [bigSep_take hmem] at *
  unfold recvPay gPts at *
  iintro ⟨⟨HI, HO, HX, H1, ⟨⟨Hat, ⟨%f, %hf, Hg⟩⟩, H2⟩, H3, H4⟩, HR⟩
  iapply (wp_load 𝒱₀ (c : Thread nD τ) none Set.univ (m := gA) (r := (gR (c - dn j)).toLoadRect) (g_sub (c - dn j))) $$ Hg
  iintro Hg
  rw [show gA.view.readAt (Elt F) (gR (c - dn j)).toLoadRect f = xgv m ρ c j from by
    unfold xgv; rw [← hf, Memref.read_squeeze_slice _ _ _ _ g_casts]; exact (shapeCast_shapeCast _ _ _).symm]
  iapply h
  isplitr [HR]
  · isplitl [HI]; · iexact HI
    isplitl [HO]; · iexact HO
    isplitl [HX]; · iexact HX
    isplitl [H1]; · iexact H1
    isplitl [H2 Hat Hg]
    · isplitr [H2]
      · isplitl [Hat]; · iexact Hat
        iexists f; isplitr; · (ipureintro; exact hf)
        iexact Hg
      iexact H2
    isplitl [H3] <;> iassumption
  iexact HR

/-- The load of block `j` of `w`, which has arrived. -/
theorem step_load_w (j : ℕ) {ov : Fin 3 → ℕ} {hov : ∀ a, ov a + S1x256x4096.size a ≤ S2x256x4096.size a} (ev : ov = ![(sl j).val, 0, 0]) {hl}
    {k : Vec F S1x256x4096 .f32 → Prog (TpuEff nD τ sig (Elt F) Λ₀ .tc) α}
    (h : iprop(LP m ρ K c iprop(Held m c j ∗ X) b y ∗ R) ⊢ run c (k (wv m c j)) Q) :
    iprop(LP m ρ K c iprop(Held m c j ∗ X) b y ∗ R) ⊢ run c (.op (.load vA (Rect.unit (s := S2x256x4096) ov S1x256x4096.size hov).toLoadRect hl) k) Q := by
  subst ev
  unfold LP Held wIn vPts at *
  iintro ⟨⟨HI, HO, ⟨⟨⟨%f, %hf, Hv⟩, Hs⟩, HX⟩, H1, H2, H3, H4⟩, HR⟩
  iapply (wp_load 𝒱₀ (c : Thread nD τ) none Set.univ (m := vA) (r := (vR (sl j)).toLoadRect) (v_sub (sl j))) $$ Hv
  iintro Hv
  rw [show vA.view.readAt (Elt F) (vR (sl j)).toLoadRect f = wv m c j from by
    unfold wv; rw [← hf, Memref.read_squeeze_slice _ _ _ _ w_casts]; exact (shapeCast_shapeCast _ _ _).symm]
  iapply h
  isplitr [HR]
  · isplitl [HI]; · iexact HI
    isplitl [HO]; · iexact HO
    isplitl [Hv Hs HX]
    · isplitr [HX]
      · isplitr [Hs]
        · iexists f; isplitr; · (ipureintro; exact hf)
          iexact Hv
        iexact Hs
      iexact HX
    isplitl [H1]; · iexact H1
    isplitl [H2]; · iexact H2
    isplitl [H3] <;> iassumption
  iexact HR

/-- The store of the accumulator after block `j`, whose slot is free from here on. -/
theorem step_store (j : ℕ) {v : Vec F S256x4096 .f32} (hv : v = acc m ρ c j) {hx} {hm}
    (h : iprop(LP m ρ K c iprop(X ∗ Free m c (sl j)) b (acc m ρ c j) ∗ R) ⊢ run c (k ⟨⟩) Q) :
    iprop(LP m ρ K c iprop(Held m c j ∗ X) b y ∗ R) ⊢ run c (.op (.store yA yR v Finset.univ hx hm) k) Q := by
  subst hv
  unfold LP yPts at *
  iintro ⟨⟨HI, HO, ⟨Hh, HX⟩, H1, H2, H3, H4⟩, HR⟩
  iapply (wp_store 𝒱₀ (c : Thread nD τ) none Set.univ (m := yA) (r := yR) (Mk := Finset.univ) (Finset.subset_univ _)) $$ H4
  iintro H4
  rw [show (yA.access yR : View sig .tc _ _ _).write (Elt F) y (acc m ρ c j) Finset.univ = acc m ρ c j from
    Memref.write_access_unit_zero_univ (Elt F) cc0_stg1_0 hz _ y _]
  ihave Hf := (held_free m c j) $$ Hh
  iapply h
  isplitr [HR]
  · isplitl [HI]; · iexact HI
    isplitl [HO]; · iexact HO
    isplitl [HX Hf]
    · isplitl [HX] <;> iassumption
    isplitl [H1]; · iexact H1
    isplitl [H2]; · iexact H2
    isplitl [H3] <;> iassumption
  iexact HR

/-! ## The waits on the sends -/

/-- The first `r` sends have been waited for, and their rows are back. -/
def SF (r : ℕ) : sProp 𝕄 :=
  iprop(recs m ρ K ∗ OW c 0
    ∗ (bigSep (above r) fun o => iprop(atPos ER (sendCell c o) 0 ∅ 0 ∗ cred (tallyAt (sendCell c o) () N)))
    ∗ bigSep (done r) fun o => iprop(atPos ER (sendCell c o) 1 ∅ 0 ∗ sendPay m ρ c o))

theorem step_wait_send {r : ℕ} (hr : r < 31) {s₁ : DmaSem sig} (e₁ : s₁ = sendS (dn (r + 1))) {sp' : Space} {s' : Shape} {e' : EltTy} {srcw : Memref sig .tc sp' s' e'}
    {sp : Space} {s : Shape} {e : EltTy} {dstw : Memref sig .tc sp s e} (hN : dstw.view.dmaCredit = N) {hsrc} {hdst}
    (h : iprop(SF m ρ K c (r + 1) ∗ R) ⊢ run c (k ⟨⟩) Q) :
    iprop(SF m ρ K c r ∗ R) ⊢ run c (.op (.waitDma2 s₁ srcw dstw hsrc hdst) k) Q := by
  subst e₁
  have ho := dn_ne_zero hr
  unfold SF OW at *
  rw [bigSep_above hr]
  rw [bigSep_done hr] at h
  iintro ⟨⟨#HI, ⟨%W, HO⟩, ⟨⟨Hat, Hcr⟩, H1⟩, H2⟩, HR⟩
  iapply (Rounds.wp_wait_rest_token 𝒱₀ ER (meshRd m ρ) (c : Thread nD τ) none (κ := K (c, .inr (.inl (dn (r + 1)))))
      (wpE_waitDma2_eq 𝒱₀ (c : Thread nD τ) none Set.univ) (Set.mem_univ _) () (O := 0) (W := W) (R := 0) (m := 0) (T := ∅)
      (by rw [Nat.zero_add, expect_send m ρ c _ ho]; exact hN)) $$ [Hcr HO Hat]
  · isplitr; · iapply (recs_inv m ρ K (c, .inr (.inl (dn (r + 1))))); iexact HI
    isplitl [Hcr]; · rw [hN]; iexact Hcr
    isplitl [HO]; · iexact HO
    isplitr; · rw [MayWait_zero]; iempintro
    iexact Hat
  iintro ⟨HO, Hat, -, Hpay⟩
  ihave Hp := (Entails.of_eq (rest_send m ρ c _ ho)) $$ Hpay
  iapply h
  isplitr [HR]
  · isplitr; · iexact HI
    isplitl [HO]; · iexists _; iexact HO
    isplitl [H1]; · iexact H1
    isplitl [Hat Hp]
    · isplitl [Hat] <;> iassumption
    iexact H2
  iexact HR

end Cert.KernelIdealProof

end
-- ==== Proof.SplitsKernelIdeal.lean ====
/-
The cuts of the scratch buffers: the bf16 copy into its 32 blocks of rows, the gather buffer into its 32 slots, the two
slots for `w`, and `w` itself into two halves to read it by; and a family over the mesh counted from a device's own position.
-/
module

public import proofs.«01_k».proof.Proof.StepsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- The elements of each part, as indices of its buffer. -/
abbrev bI (t : Dev nD) : Finset S8192x256.Idx := (bM t).view.set
abbrev gI (t : Dev nD) : Finset S32x256x256.Idx := (gM t).view.set
abbrev vI (t : Fin 2) : Finset S2x256x4096.Idx := (vM t).view.set

theorem bI_eq (t : Dev nD) : bI t = (Rect.unit (s := S8192x256) ![256 * t.val, 0] S256x256.size (bM_inb t)).set := View.set_slice_whole _ _
theorem gI_eq (t : Dev nD) : gI t = (gR t).set := (Memref.set_view_squeeze _ _).trans (View.set_slice_whole _ _)
theorem vI_eq (t : Fin 2) : vI t = (vR t).set := (Memref.set_view_squeeze _ _).trans (View.set_slice_whole _ _)

theorem mem_bM (t : Dev nD) (i : S8192x256.Idx) : i ∈ bI t ↔ 256 * t.val ≤ (i 0).val ∧ (i 0).val < 256 * t.val + 256 := by
  rw [bI_eq, Rect.mem_set_unit]
  constructor
  · intro h; exact h 0
  · intro h a
    fin_cases a
    · exact h
    · exact ⟨Nat.zero_le _, by have := (i 1).isLt; exact (Nat.zero_add 256).symm ▸ this⟩
theorem mem_gM (t : Dev nD) (i : S32x256x256.Idx) : i ∈ gI t ↔ (i 0).val = t.val := by
  rw [gI_eq, Rect.mem_set_unit]
  constructor
  · intro h
    have h0 := h 0
    exact Nat.le_antisymm (Nat.lt_succ_iff.mp h0.2) h0.1
  · intro h a
    fin_cases a
    · exact ⟨le_of_eq h.symm, by rw [show (i ⟨0, _⟩).val = t.val from h]; exact Nat.lt_succ_self _⟩
    · exact ⟨Nat.zero_le _, by have := (i 1).isLt; exact (Nat.zero_add 256).symm ▸ this⟩
    · exact ⟨Nat.zero_le _, by have := (i 2).isLt; exact (Nat.zero_add 256).symm ▸ this⟩
theorem mem_vM (t : Fin 2) (i : S2x256x4096.Idx) : i ∈ vI t ↔ (i 0).val = t.val := by
  rw [vI_eq, Rect.mem_set_unit]
  constructor
  · intro h
    have h0 := h 0
    exact Nat.le_antisymm (Nat.lt_succ_iff.mp h0.2) h0.1
  · intro h a
    fin_cases a
    · exact ⟨le_of_eq h.symm, by rw [show (i ⟨0, _⟩).val = t.val from h]; exact Nat.lt_succ_self _⟩
    · exact ⟨Nat.zero_le _, by have := (i 1).isLt; exact (Nat.zero_add 256).symm ▸ this⟩
    · exact ⟨Nat.zero_le _, by have := (i 2).isLt; exact (Nat.zero_add 4096).symm ▸ this⟩

theorem b_disj (t t' : Dev nD) (h : t ≠ t') : Disjoint (bI t) (bI t') :=
  Finset.disjoint_left.mpr fun i h₁ h₂ => h (Fin.ext (by
    have a₁ := (mem_bM t i).mp h₁; have a₂ := (mem_bM t' i).mp h₂; omega))
theorem g_disj (t t' : Dev nD) (h : t ≠ t') : Disjoint (gI t) (gI t') :=
  Finset.disjoint_left.mpr fun i h₁ h₂ => h (Fin.ext (((mem_gM t i).mp h₁).symm.trans ((mem_gM t' i).mp h₂)))
theorem v_disj (t t' : Fin 2) (h : t ≠ t') : Disjoint (vI t) (vI t') :=
  Finset.disjoint_left.mpr fun i h₁ h₂ => h (Fin.ext (((mem_vM t i).mp h₁).symm.trans ((mem_vM t' i).mp h₂)))

theorem b_cover : (Finset.univ.biUnion bI) = Finset.univ := by
  refine Finset.eq_univ_iff_forall.mpr fun (i : S8192x256.Idx) => Finset.mem_biUnion.mpr ?_
  have hi : (i 0).val < 8192 := (i 0).isLt
  exact ⟨⟨(i 0).val / 256, by show _ < 32; omega⟩, Finset.mem_univ _, (mem_bM _ i).mpr ⟨by show 256 * ((i 0).val / 256) ≤ _; omega, by show _ < 256 * ((i 0).val / 256) + 256; omega⟩⟩
theorem g_cover : (Finset.univ.biUnion gI) = Finset.univ := by
  refine Finset.eq_univ_iff_forall.mpr fun (i : S32x256x256.Idx) => Finset.mem_biUnion.mpr ?_
  exact ⟨⟨(i 0).val, (i 0).isLt⟩, Finset.mem_univ _, (mem_gM _ i).mpr rfl⟩
theorem v_cover : (Finset.univ.biUnion vI) = Finset.univ := by
  refine Finset.eq_univ_iff_forall.mpr fun (i : S2x256x4096.Idx) => Finset.mem_biUnion.mpr ?_
  exact ⟨⟨(i 0).val, (i 0).isLt⟩, Finset.mem_univ _, (mem_vM _ i).mpr rfl⟩

/-- A family over the mesh: the device's own member, and the others by their offset. -/
theorem around {M : Type} [URA M] (Φ : Dev nD → sProp M) :
    bigSep Finset.univ Φ = iprop(Φ c ∗ bigSep (above 0) fun o => Φ (c + o)) := by
  have h0 : (Finset.univ : Finset (Fin 32)) = insert 0 (above 0) := by decide
  have hn : (0 : Fin 32) ∉ above 0 := by decide
  rw [bigSep_univ_equiv (Equiv.addLeft c) Φ, h0, bigSep_insert hn]
  show iprop(Φ (c + 0) ∗ _) = _
  rw [add_zero]; rfl
/-- The same counted downwards. -/
theorem around_sub {M : Type} [URA M] (Φ : Dev nD → sProp M) :
    bigSep Finset.univ Φ = iprop(Φ c ∗ bigSep (above 0) fun o => Φ (c - o)) := by
  have h0 : (Finset.univ : Finset (Fin 32)) = insert 0 (above 0) := by decide
  have hn : (0 : Fin 32) ∉ above 0 := by decide
  rw [bigSep_univ_equiv (Equiv.subLeft c) Φ, h0, bigSep_insert hn]
  show iprop(Φ (c - 0) ∗ _) = _
  rw [sub_zero]; rfl

/-- A buffer of the bf16 copy, at any contents; -/
def bAny : sProp 𝕄 := iprop(∃ f : Buf (Elt F) ((c : Thread nD τ).loc cc0_scratch0), (c : Thread nD τ).loc cc0_scratch0 ↦{fullShare} f)
/-- holding the copy; -/
def bFull : sProp 𝕄 := (c : Thread nD τ).loc cc0_scratch0 ↦{fullShare} xcast m ρ c
/-- the gather buffer, at any contents; -/
def gAny : sProp 𝕄 := iprop(∃ f : Buf (Elt F) ((c : Thread nD τ).loc cc0_scratch1), (c : Thread nD τ).loc cc0_scratch1 ↦{fullShare} f)
/-- the two slots for `w`, at any contents; -/
def vAny : sProp 𝕄 := iprop(∃ f : Buf (Elt F) ((c : Thread nD τ).loc cc0_scratch2), (c : Thread nD τ).loc cc0_scratch2 ↦{fullShare} f)
/-- `w`, whole. -/
def wFull : sProp 𝕄 := (c : Thread nD τ).loc main_arg1 ↦{fullShare} wbuf m c

theorem b_cut : bFull m ρ c = iprop(bPts m ρ c c ∗ bigSep (above 0) fun o => bPts m ρ c (c + o)) := by
  rw [← around c (fun t => bPts m ρ c t)]
  exact Ring.pointsTo_blocks (ℓ := (c : Thread nD τ).loc cc0_scratch0) bI b_disj b_cover _

theorem g_some (s : Dev nD) (f) : gPts (F := F) c s f ⊢ iprop(∃ f, gPts (F := F) c s f) := by
  iintro H; iexists f; iexact H
theorem g_cut : gAny (F := F) c ⊢ iprop((∃ f, gPts (F := F) c c f) ∗ bigSep (above 0) fun o => iprop(∃ f, gPts (F := F) c (c + o) f)) := by
  have h (f) : ((c : Thread nD τ).loc cc0_scratch1 ↦{fullShare} f : sProp 𝕄) ⊢ bigSep Finset.univ fun s => iprop(∃ f, gPts (F := F) c s f) :=
    BIBase.Entails.trans (Entails.of_eq (Ring.pointsTo_blocks (ℓ := (c : Thread nD τ).loc cc0_scratch1) gI g_disj g_cover f))
      (bigSep_mono fun s _ => g_some c s f)
  unfold gAny
  iintro ⟨%f, H⟩
  iapply (Entails.of_eq (around c fun s => iprop(∃ f, gPts (F := F) c s f)))
  iapply (h f); iexact H
theorem g_join : iprop((∃ f, gPts (F := F) c c f) ∗ bigSep (above 0) fun o => iprop(∃ f, gPts (F := F) c (c - o) f)) ⊢ gAny (F := F) c := by
  rw [← around_sub c fun s => iprop(∃ f, gPts (F := F) c s f)]
  exact Ring.pointsTo_blocks_join_exists (ℓ := (c : Thread nD τ).loc cc0_scratch1) gI g_disj g_cover (fun _ => default)

theorem v_cut : vAny (F := F) c ⊢ iprop((∃ f, vPts (F := F) c 0 f) ∗ ∃ f, vPts (F := F) c 1 f) := by
  have h (f) : ((c : Thread nD τ).loc cc0_scratch2 ↦{fullShare} f : sProp 𝕄) = iprop(vPts (F := F) c 0 f ∗ vPts (F := F) c 1 f) :=
    (Ring.pointsTo_blocks (ℓ := (c : Thread nD τ).loc cc0_scratch2) vI v_disj v_cover f).trans (bigSep_fin_two _)
  unfold vAny
  iintro ⟨%f, H⟩
  ihave H := (Entails.of_eq (h f)) $$ H
  icases H with ⟨H0, H1⟩
  isplitl [H0]; · iexists f; iexact H0
  iexists f; iexact H1
theorem v_join : iprop((∃ f, vPts (F := F) c 0 f) ∗ ∃ f, vPts (F := F) c 1 f) ⊢ vAny (F := F) c :=
  BIBase.Entails.trans (Entails.of_eq (bigSep_fin_two fun t => iprop(∃ f, vPts (F := F) c t f)).symm)
    (Ring.pointsTo_blocks_join_exists (ℓ := (c : Thread nD τ).loc cc0_scratch2) vI v_disj v_cover (fun _ => default))

theorem w_cut : wFull m c ⊣⊢ iprop(wPts m c 0 ∗ wPts m c 1) := by
  unfold wFull wPts hh
  rw [if_pos rfl, if_neg (by decide)]
  exact pointsTo_share (PosShare.mem_left_op_right _)

end Cert.KernelIdealProof

end
-- ==== Proof.BodyKernelIdeal.lean ====
/-
The body of the kernel on one device, run from the state it starts in to the state it leaves.
-/
module

public import proofs.«01_k».proof.Proof.SplitsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- The body as the launch calls it. -/
abbrev theBody : Prog (TpuEff nD τ sig (Elt F) Λ₀ .tc) PUnit :=
  cc0_body xA (Memref.isWhole_whole _) wA (Memref.isWhole_whole _) yA (Memref.isWhole_whole _) bA (Memref.isWhole_whole _) gA (Memref.isWhole_whole _)
    vA (Memref.isWhole_whole _) cc0_scratch3 cc0_scratch4 cc0_scratch5

section Cut
variable {α β : Type} {p : Prog (TpuEff nD τ sig (Elt F) Λ₀ .tc) α} {k : α → Prog (TpuEff nD τ sig (Elt F) Λ₀ .tc) β}
  {Q : β → sProp (MT nD τ sig Unit (Elt F) ℕ UU ℕ)} {S : sProp (MT nD τ sig Unit (Elt F) ℕ UU ℕ)} {Q' : α → sProp (MT nD τ sig Unit (Elt F) ℕ UU ℕ)}

/-- A part of the body, run first with whatever follows it held as `Q'`; -/
theorem run_part (h : ∀ Q', Q' = (fun a => run c (k a) Q) → S ⊢ run c p Q') : S ⊢ run c (p >>= k) Q := by
  have := h _ rfl
  unfold run
  rw [wp_bind]; exact this
/-- its end: what follows takes over. -/
theorem run_next {v : α} (hQ : Q' = fun a => run c (k a) Q) (h : S ⊢ run c (k v) Q) : S ⊢ run c (.ret v) Q' := by
  subst hQ
  refine h.trans ?_
  show _ ⊢ wp _ _ _ (.ret v) _
  rw [wp_ret]
  iintro H; imodintro; iexact H
end Cut

/-! ## The first bf16 copy -/

section Cast
variable {α : Type} {Q : α → sProp (MT nD τ sig Unit (Elt F) ℕ UU ℕ)} {R : sProp (MT nD τ sig Unit (Elt F) ℕ UU ℕ)}

/-- The load of all of `x`. -/
theorem step_load_all {h0 hl} {k : Vec F S8192x256 .f32 → Prog (TpuEff nD τ sig (Elt F) Λ₀ .tc) α}
    (h : iprop(xPts m ρ c ∗ R) ⊢ run c (k (xstg m ρ c)) Q) :
    iprop(xPts m ρ c ∗ R) ⊢ run c (.op (.load xA (Rect.unit (s := S8192x256) ![0, 0] S8192x256.size h0).toLoadRect hl) k) Q := by
  unfold xPts at *
  iintro ⟨H3, HR⟩
  iapply (wp_load 𝒱₀ (c : Thread nD τ) none Set.univ (m := xA) (Finset.subset_univ _)) $$ H3
  iintro H3
  rw [show xA.view.readAt (Elt F) (Rect.unit (s := S8192x256) ![0, 0] S8192x256.size h0).toLoadRect (xstg m ρ c) = xstg m ρ c from
    Memref.readAt_unit_zero (Elt F) cc0_stg0_0 hz _ _]
  iapply h
  isplitl [H3] <;> iassumption
/-- The load of the buffer the copy goes to. -/
theorem step_load_b {h0 hl} {k : Vec F S8192x256 .bf16 → Prog (TpuEff nD τ sig (Elt F) Λ₀ .tc) α}
    (h : ∀ v, iprop(bAny c ∗ R) ⊢ run c (k v) Q) :
    iprop(bAny c ∗ R) ⊢ run c (.op (.load bA (Rect.unit (s := S8192x256) ![0, 0] S8192x256.size h0).toLoadRect hl) k) Q := by
  unfold bAny at *
  iintro ⟨⟨%f, H3⟩, HR⟩
  iapply (wp_load 𝒱₀ (c : Thread nD τ) none Set.univ (m := bA) (Finset.subset_univ _)) $$ H3
  iintro H3
  iapply (h _)
  isplitl [H3]; · iexists f; iexact H3
  iexact HR
/-- The store of the copy. -/
theorem step_store_b {h0 hx hm} {v : Vec F S8192x256 .bf16} (hv : v = xcast m ρ c) {k : PUnit → Prog (TpuEff nD τ sig (Elt F) Λ₀ .tc) α}
    (h : iprop(bFull m ρ c ∗ R) ⊢ run c (k ⟨⟩) Q) :
    iprop(bAny c ∗ R) ⊢ run c (.op (.store bA (Rect.unit (s := S8192x256) ![0, 0] S8192x256.size h0) v Finset.univ hx hm) k) Q := by
  subst hv
  unfold bAny bFull at *
  iintro ⟨⟨%f, H4⟩, HR⟩
  iapply (wp_store 𝒱₀ (c : Thread nD τ) none Set.univ (m := bA) (r := Rect.unit (s := S8192x256) ![0, 0] S8192x256.size h0) (Mk := Finset.univ) (Finset.subset_univ _)) $$ H4
  iintro H4
  rw [show (bA.access (Rect.unit (s := S8192x256) ![0, 0] S8192x256.size h0) : View sig .tc _ _ _).write (Elt F) f (xcast m ρ c) Finset.univ = xcast m ρ c from
    Memref.write_access_unit_zero_univ (Elt F) cc0_scratch0 hz _ f _]
  iapply h
  isplitl [H4] <;> iassumption
end Cast

/-! ## The whole body -/

/-- The duties of the sends; -/
def G1 : sProp 𝕄 := bigSep (above 0) fun o => iprop(dutyTok ER (sendCell c o) 0 0 ∗ dutyTok ER (recvCell (c + o) o) 0 0)
/-- the positions and credits of the receives; -/
def G2 : sProp 𝕄 := bigSep (above 0) fun o => iprop(atPos ER (recvCell c o) 0 ∅ 0 ∗ cred (tallyAt (recvCell c o) () N))
/-- the positions of the sends; -/
def G3 : sProp 𝕄 := bigSep (above 0) fun o => atPos ER (sendCell c o) 0 ∅ 0
/-- what the loop leaves. -/
def LE (y : Vec F S256x4096 .f32) : sProp 𝕄 :=
  iprop(Free m c 0 ∗ Free m c 1 ∗ (bigSep (above 0) fun o => iprop(atPos ER (recvCell c o) 1 ∅ 0 ∗ recvPay m ρ c o)) ∗ xPts m ρ c ∗ yPts c y)

section Turns
/-- Loading the rows received in iteration `j`, while its rows of `w` are being fetched. -/
theorem step_load_here {α : Type} {X R : sProp (MT nD τ sig Unit (Elt F) ℕ UU ℕ)} {Q : α → sProp (MT nD τ sig Unit (Elt F) ℕ UU ℕ)} {b : ℕ}
    {y : Vec F S256x4096 .f32} (j : ℕ) (hj : 0 < j ∧ j ≤ b) (hb : b < 32)
    {og : Fin 3 → ℕ} {hog : ∀ a, og a + S1x256x256.size a ≤ S32x256x256.size a} (eg : og = ![(c.val + (32 - j % 32)) % 32, 0, 0]) {hl}
    {k : Vec F S1x256x256 .bf16 → Prog (TpuEff nD τ sig (Elt F) Λ₀ .tc) α}
    (h : iprop(LP m ρ K c iprop(Fl m c j ∗ X) b y ∗ R) ⊢ run c (k (xgv m ρ c j)) Q) :
    iprop(LP m ρ K c iprop(Fl m c j ∗ X) b y ∗ R) ⊢ run c (.op (.load gA (Rect.unit (s := S32x256x256) og S1x256x256.size hog).toLoadRect hl) k) Q :=
  step_load_x m ρ K c j hj hb eg h

variable {y : Vec F S256x4096 .f32} {R R₁ : sProp (MT nD τ sig Unit (Elt F) ℕ UU ℕ)}

/-- From the barrier to the sends: the rows, the slots and the duties, offset by offset. -/
theorem turn_send : iprop(bFull m ρ c ∗ xPts m ρ c ∗ SB m ρ K c ∗ G1 c ∗ R) ⊢ iprop(SD m ρ K c 0 ∗ bPts m ρ c c ∗ atPos ER (barCell c) 1 ∅ 0 ∗ xPts m ρ c ∗ R) := by
  unfold SB SD G1
  rw [b_cut, done_0, bigSep_empty]
  simp only [bigSep_sep']
  iintro ⟨⟨Hb0, Hb⟩, Hx, ⟨HI, HO, Hat, Hg⟩, ⟨Ht₁, Ht₂⟩, HR⟩
  isplitl [Hb HI HO Hg Ht₁ Ht₂]
  · isplitl [HI]; · iexact HI
    isplitl [HO]; · iexact HO
    isplitl
    · isplitl [Hb]; · iexact Hb
      isplitl [Hg]; · iexact Hg
      isplitl [Ht₁] <;> iassumption
    iempintro
  isplitl [Hb0]; · iexact Hb0
  isplitl [Hat]; · iexact Hat
  isplitl [Hx] <;> iassumption

/-- From the sends to the loop. -/
theorem turn_loop : iprop(Fl m c 0 ∗ SD m ρ K c 31 ∗ bPts m ρ c c ∗ atPos ER (barCell c) 1 ∅ 0 ∗ xPts m ρ c ∗ Free m c 1 ∗ yPts c y ∗ G2 c ∗ R)
    ⊢ iprop(LP m ρ K c iprop(Fl m c 0 ∗ Free m c 1) 0 y ∗ (bigSep (done 31) fun o => cred (tallyAt (sendCell c o) () N)) ∗ bPts m ρ c c ∗ atPos ER (barCell c) 1 ∅ 0 ∗ R) := by
  unfold SD LP G2
  rw [Orecv_31, above_31, bigSep_empty, done_0, bigSep_empty]
  iintro ⟨Hf, ⟨HI, HO, -, Hcr⟩, Hb, Hat, Hx, Hv, Hy, HG, HR⟩
  isplitl [Hf HI HO Hx Hv Hy HG]
  · isplitl [HI]; · iexact HI
    isplitl [HO]; · iexact HO
    isplitl [Hf Hv]
    · isplitl [Hf] <;> iassumption
    isplitl [HG]; · iexact HG
    isplitr; · iempintro
    isplitl [Hx] <;> iassumption
  isplitl [Hcr]; · iexact Hcr
  isplitl [Hb]; · iexact Hb
  isplitl [Hat] <;> iassumption

/-- From the loop to the waits on the sends. -/
theorem turn_wait : iprop(LP m ρ K c iprop(Free m c 0 ∗ Free m c 1) 31 y
      ∗ (bigSep (done 31) fun o => cred (tallyAt (sendCell c o) () N)) ∗ bPts m ρ c c ∗ atPos ER (barCell c) 1 ∅ 0 ∗ G3 c ∗ R)
    ⊢ iprop(SF m ρ K c 0 ∗ LE m ρ c y ∗ bPts m ρ c c ∗ atPos ER (barCell c) 1 ∅ 0 ∗ R) := by
  unfold LP SF G3 LE
  rw [done_31, done_0, bigSep_empty, above_31, bigSep_empty]
  rw [bigSep_sep' (above 0) (fun o => atPos ER (sendCell c o) 0 ∅ 0) (fun o => cred (tallyAt (sendCell c o) () N))]
  iintro ⟨⟨HI, HO, ⟨Hv0, Hv1⟩, -, Hr, Hx, Hy⟩, Hcr, Hb, Hat, HG, HR⟩
  isplitl [HI HO Hcr HG]
  · isplitl [HI]; · iexact HI
    isplitl [HO]; · iexact HO
    isplitl [Hcr HG]
    · isplitl [HG] <;> iassumption
    iempintro
  isplitl [Hv0 Hv1 Hr Hx Hy]
  · isplitl [Hv0]; · iexact Hv0
    isplitl [Hv1]; · iexact Hv1
    isplitl [Hr]; · iexact Hr
    isplitl [Hx] <;> iassumption
  isplitl [Hb]; · iexact Hb
  isplitl [Hat] <;> iassumption

theorem turn_bar : iprop(SB m ρ K c ∗ xPts m ρ c ∗ R ∗ R₁) ⊢ iprop(xPts m ρ c ∗ R ∗ SB m ρ K c ∗ R₁) := by
  iintro ⟨H1, H2, H3, H4⟩
  isplitl [H2]; · iexact H2
  isplitl [H3]; · iexact H3
  isplitl [H1] <;> iassumption
theorem turn_left {A B C : sProp (MT nD τ sig Unit (Elt F) ℕ UU ℕ)} : iprop(A ∗ B ∗ C) ⊢ iprop(B ∗ A ∗ C) := by
  iintro ⟨H1, H2, H3⟩
  isplitl [H2]; · iexact H2
  isplitl [H1] <;> iassumption
theorem turn_free {A B C D E : sProp (MT nD τ sig Unit (Elt F) ℕ UU ℕ)} : iprop(A ∗ B ∗ C ∗ D ∗ E ∗ R) ⊢ iprop(E ∗ A ∗ B ∗ C ∗ D ∗ R) := by
  iintro ⟨H1, H2, H3, H4, H5, H6⟩
  isplitl [H5]; · iexact H5
  isplitl [H1]; · iexact H1
  isplitl [H2]; · iexact H2
  isplitl [H3]; · iexact H3
  isplitl [H4] <;> iassumption
end Turns

set_option maxHeartbeats 4000000 in
/-- The body, one step after another, to the accumulator of all 32 blocks with every transfer waited for. -/
theorem body_run (y : Vec F S256x4096 .f32) (R : sProp (MT nD τ sig Unit (Elt F) ℕ UU ℕ)) (Q : PUnit → sProp (MT nD τ sig Unit (Elt F) ℕ UU ℕ))
    (hend : iprop(SF m ρ K c 31 ∗ LE m ρ c (acc m ρ c 31) ∗ bPts m ρ c c ∗ atPos ER (barCell c) 1 ∅ 0 ∗ R) ⊢ |={Set.univ}=> Q ⟨⟩) :
    iprop(SA m ρ K c 0 ∗ cred (tallyAt (barCell c) () 31) ∗ atPos ER (barCell c) 0 ∅ 0 ∗ xPts m ρ c ∗ bAny c ∗ G1 c ∗ Free m c 0
      ∗ Free m c 1 ∗ yPts c y ∗ G2 c ∗ G3 c ∗ R) ⊢ run c theBody Q := by
  unfold theBody
  rw [cc0_body_eq_skeleton]; unfold cc0_body_skel
  refine run_part c ?_; intro Q0 hQ0
  rw [k0_part65_eq_skeleton]
  unfold k0_part65_skel
  repeat first
    | (with_reducible refine step_signal m ρ K c ?_ ?_ ?_ ?_
       · decide
       · clear * -; revert c; decide +kernel
       · rfl)
    | (with_reducible refine run_next c (by assumption) ?_; try dsimp only)
    | (with_reducible refine run_part c ?_; intro Q' hQ'
       simp only [k0_part1_eq_skeleton, k0_part1_skel, k0_part2_eq_skeleton, k0_part2_skel, k0_part3_eq_skeleton, k0_part3_skel, k0_part4_eq_skeleton,
        k0_part4_skel, k0_part5_eq_skeleton, k0_part5_skel, k0_part6_eq_skeleton, k0_part6_skel, k0_part7_eq_skeleton, k0_part7_skel,
        k0_part8_eq_skeleton, k0_part8_skel, k0_part9_eq_skeleton, k0_part9_skel, k0_part10_eq_skeleton, k0_part10_skel, k0_part11_eq_skeleton,
        k0_part11_skel, k0_part12_eq_skeleton, k0_part12_skel, k0_part13_eq_skeleton, k0_part13_skel, k0_part14_eq_skeleton, k0_part14_skel,
        k0_part15_eq_skeleton, k0_part15_skel, k0_part16_eq_skeleton, k0_part16_skel, k0_part17_eq_skeleton, k0_part17_skel, k0_part18_eq_skeleton,
        k0_part18_skel, k0_part19_eq_skeleton, k0_part19_skel, k0_part20_eq_skeleton, k0_part20_skel, k0_part21_eq_skeleton, k0_part21_skel,
        k0_part22_eq_skeleton, k0_part22_skel, k0_part23_eq_skeleton, k0_part23_skel, k0_part24_eq_skeleton, k0_part24_skel, k0_part25_eq_skeleton,
        k0_part25_skel, k0_part26_eq_skeleton, k0_part26_skel, k0_part27_eq_skeleton, k0_part27_skel, k0_part28_eq_skeleton, k0_part28_skel,
        k0_part29_eq_skeleton, k0_part29_skel, k0_part30_eq_skeleton, k0_part30_skel, k0_part31_eq_skeleton, k0_part31_skel, k0_part32_eq_skeleton,
        k0_part32_skel, k0_part33_eq_skeleton, k0_part33_skel, k0_part34_eq_skeleton, k0_part34_skel, k0_part35_eq_skeleton, k0_part35_skel,
        k0_part36_eq_skeleton, k0_part36_skel, k0_part37_eq_skeleton, k0_part37_skel, k0_part38_eq_skeleton, k0_part38_skel, k0_part39_eq_skeleton,
        k0_part39_skel, k0_part40_eq_skeleton, k0_part40_skel, k0_part41_eq_skeleton, k0_part41_skel, k0_part42_eq_skeleton, k0_part42_skel,
        k0_part43_eq_skeleton, k0_part43_skel, k0_part44_eq_skeleton, k0_part44_skel, k0_part45_eq_skeleton, k0_part45_skel, k0_part46_eq_skeleton,
        k0_part46_skel, k0_part47_eq_skeleton, k0_part47_skel, k0_part48_eq_skeleton, k0_part48_skel, k0_part49_eq_skeleton, k0_part49_skel,
        k0_part50_eq_skeleton, k0_part50_skel, k0_part51_eq_skeleton, k0_part51_skel, k0_part52_eq_skeleton, k0_part52_skel, k0_part53_eq_skeleton,
        k0_part53_skel, k0_part54_eq_skeleton, k0_part54_skel, k0_part55_eq_skeleton, k0_part55_skel, k0_part56_eq_skeleton, k0_part56_skel,
        k0_part57_eq_skeleton, k0_part57_skel, k0_part58_eq_skeleton, k0_part58_skel, k0_part59_eq_skeleton, k0_part59_skel, k0_part60_eq_skeleton,
        k0_part60_skel, k0_part61_eq_skeleton, k0_part61_skel, k0_part62_eq_skeleton, k0_part62_skel, k0_part63_eq_skeleton, k0_part63_skel,
        k0_part64_eq_skeleton, k0_part64_skel,
         semSignalWord, semWaitWord, Prog.lift, Prog.bind_op, Prog.bind_ret, Prog.pure_eq_ret, wp_deviceId])
  refine step_barrier m ρ K c rfl ?_
  refine BIBase.Entails.trans (turn_bar m ρ K c) ?_
  refine step_load_all m ρ c ?_
  refine BIBase.Entails.trans turn_left ?_
  refine step_load_b c fun v => ?_
  refine step_store_b m ρ c rfl ?_
  refine BIBase.Entails.trans (turn_send m ρ K c) ?_
  repeat first
    | (with_reducible refine step_send m ρ K c ?_ ?_ ?_ ?_ ?_ ?_ ?_
       · decide
       · clear * -; revert c; decide +kernel
       · clear * -; revert c; decide +kernel
       · exact k0_off1_eq c
       · rfl
       · rfl)
    | (with_reducible refine run_next c (by assumption) ?_; try dsimp only)
    | (with_reducible refine run_part c ?_; intro Q' hQ'
       simp only [k0_part1_eq_skeleton, k0_part1_skel, k0_part2_eq_skeleton, k0_part2_skel, k0_part3_eq_skeleton, k0_part3_skel, k0_part4_eq_skeleton,
        k0_part4_skel, k0_part5_eq_skeleton, k0_part5_skel, k0_part6_eq_skeleton, k0_part6_skel, k0_part7_eq_skeleton, k0_part7_skel,
        k0_part8_eq_skeleton, k0_part8_skel, k0_part9_eq_skeleton, k0_part9_skel, k0_part10_eq_skeleton, k0_part10_skel, k0_part11_eq_skeleton,
        k0_part11_skel, k0_part12_eq_skeleton, k0_part12_skel, k0_part13_eq_skeleton, k0_part13_skel, k0_part14_eq_skeleton, k0_part14_skel,
        k0_part15_eq_skeleton, k0_part15_skel, k0_part16_eq_skeleton, k0_part16_skel, k0_part17_eq_skeleton, k0_part17_skel, k0_part18_eq_skeleton,
        k0_part18_skel, k0_part19_eq_skeleton, k0_part19_skel, k0_part20_eq_skeleton, k0_part20_skel, k0_part21_eq_skeleton, k0_part21_skel,
        k0_part22_eq_skeleton, k0_part22_skel, k0_part23_eq_skeleton, k0_part23_skel, k0_part24_eq_skeleton, k0_part24_skel, k0_part25_eq_skeleton,
        k0_part25_skel, k0_part26_eq_skeleton, k0_part26_skel, k0_part27_eq_skeleton, k0_part27_skel, k0_part28_eq_skeleton, k0_part28_skel,
        k0_part29_eq_skeleton, k0_part29_skel, k0_part30_eq_skeleton, k0_part30_skel, k0_part31_eq_skeleton, k0_part31_skel, k0_part32_eq_skeleton,
        k0_part32_skel, k0_part33_eq_skeleton, k0_part33_skel, k0_part34_eq_skeleton, k0_part34_skel, k0_part35_eq_skeleton, k0_part35_skel,
        k0_part36_eq_skeleton, k0_part36_skel, k0_part37_eq_skeleton, k0_part37_skel, k0_part38_eq_skeleton, k0_part38_skel, k0_part39_eq_skeleton,
        k0_part39_skel, k0_part40_eq_skeleton, k0_part40_skel, k0_part41_eq_skeleton, k0_part41_skel, k0_part42_eq_skeleton, k0_part42_skel,
        k0_part43_eq_skeleton, k0_part43_skel, k0_part44_eq_skeleton, k0_part44_skel, k0_part45_eq_skeleton, k0_part45_skel, k0_part46_eq_skeleton,
        k0_part46_skel, k0_part47_eq_skeleton, k0_part47_skel, k0_part48_eq_skeleton, k0_part48_skel, k0_part49_eq_skeleton, k0_part49_skel,
        k0_part50_eq_skeleton, k0_part50_skel, k0_part51_eq_skeleton, k0_part51_skel, k0_part52_eq_skeleton, k0_part52_skel, k0_part53_eq_skeleton,
        k0_part53_skel, k0_part54_eq_skeleton, k0_part54_skel, k0_part55_eq_skeleton, k0_part55_skel, k0_part56_eq_skeleton, k0_part56_skel,
        k0_part57_eq_skeleton, k0_part57_skel, k0_part58_eq_skeleton, k0_part58_skel, k0_part59_eq_skeleton, k0_part59_skel, k0_part60_eq_skeleton,
        k0_part60_skel, k0_part61_eq_skeleton, k0_part61_skel, k0_part62_eq_skeleton, k0_part62_skel, k0_part63_eq_skeleton, k0_part63_skel,
        k0_part64_eq_skeleton, k0_part64_skel,
         semSignalWord, semWaitWord, Prog.lift, Prog.bind_op, Prog.bind_ret, Prog.pure_eq_ret, wp_deviceId])
  refine BIBase.Entails.trans turn_free ?_
  refine step_fetch_core m c 0 rfl ((k0_off3_eq c).trans ?_) rfl rfl ?_
  · rw [sub_dn_val]; clear * -; revert c; decide +kernel
  refine BIBase.Entails.trans (turn_loop m ρ K c) ?_
  repeat first
    | (with_reducible refine step_fetch m ρ K c _ ?_ ?_ ?_ ?_ ?_
       · rfl
       · clear * -; revert c; decide +kernel
       · rfl
       · rfl)
    | (with_reducible refine step_wait_w m ρ K c _ ?_ ?_ ?_
       · rfl
       · rfl)
    | (with_reducible refine step_load_own m ρ K c ?_ ?_
       · exact k0_off5_eq c)
    | (with_reducible refine step_wait_recv m ρ K c ?_ ?_ ?_ ?_
       · decide
       · rfl
       · rfl)
    | (with_reducible refine step_load_here m ρ K c _ ?_ ?_ ?_ ?_
       · decide
       · decide
       · clear * -; revert c; decide +kernel)
    | (with_reducible refine step_load_w m ρ K c _ ?_ ?_
       · rfl)
    | (with_reducible refine step_load_y m ρ K c ?_)
    | (with_reducible refine step_store m ρ K c _ ?_ ?_
       · rfl)
    | (with_reducible refine run_next c (by assumption) ?_; try dsimp only)
    | (with_reducible refine run_part c ?_; intro Q' hQ'
       simp only [k0_part1_eq_skeleton, k0_part1_skel, k0_part2_eq_skeleton, k0_part2_skel, k0_part3_eq_skeleton, k0_part3_skel, k0_part4_eq_skeleton,
        k0_part4_skel, k0_part5_eq_skeleton, k0_part5_skel, k0_part6_eq_skeleton, k0_part6_skel, k0_part7_eq_skeleton, k0_part7_skel,
        k0_part8_eq_skeleton, k0_part8_skel, k0_part9_eq_skeleton, k0_part9_skel, k0_part10_eq_skeleton, k0_part10_skel, k0_part11_eq_skeleton,
        k0_part11_skel, k0_part12_eq_skeleton, k0_part12_skel, k0_part13_eq_skeleton, k0_part13_skel, k0_part14_eq_skeleton, k0_part14_skel,
        k0_part15_eq_skeleton, k0_part15_skel, k0_part16_eq_skeleton, k0_part16_skel, k0_part17_eq_skeleton, k0_part17_skel, k0_part18_eq_skeleton,
        k0_part18_skel, k0_part19_eq_skeleton, k0_part19_skel, k0_part20_eq_skeleton, k0_part20_skel, k0_part21_eq_skeleton, k0_part21_skel,
        k0_part22_eq_skeleton, k0_part22_skel, k0_part23_eq_skeleton, k0_part23_skel, k0_part24_eq_skeleton, k0_part24_skel, k0_part25_eq_skeleton,
        k0_part25_skel, k0_part26_eq_skeleton, k0_part26_skel, k0_part27_eq_skeleton, k0_part27_skel, k0_part28_eq_skeleton, k0_part28_skel,
        k0_part29_eq_skeleton, k0_part29_skel, k0_part30_eq_skeleton, k0_part30_skel, k0_part31_eq_skeleton, k0_part31_skel, k0_part32_eq_skeleton,
        k0_part32_skel, k0_part33_eq_skeleton, k0_part33_skel, k0_part34_eq_skeleton, k0_part34_skel, k0_part35_eq_skeleton, k0_part35_skel,
        k0_part36_eq_skeleton, k0_part36_skel, k0_part37_eq_skeleton, k0_part37_skel, k0_part38_eq_skeleton, k0_part38_skel, k0_part39_eq_skeleton,
        k0_part39_skel, k0_part40_eq_skeleton, k0_part40_skel, k0_part41_eq_skeleton, k0_part41_skel, k0_part42_eq_skeleton, k0_part42_skel,
        k0_part43_eq_skeleton, k0_part43_skel, k0_part44_eq_skeleton, k0_part44_skel, k0_part45_eq_skeleton, k0_part45_skel, k0_part46_eq_skeleton,
        k0_part46_skel, k0_part47_eq_skeleton, k0_part47_skel, k0_part48_eq_skeleton, k0_part48_skel, k0_part49_eq_skeleton, k0_part49_skel,
        k0_part50_eq_skeleton, k0_part50_skel, k0_part51_eq_skeleton, k0_part51_skel, k0_part52_eq_skeleton, k0_part52_skel, k0_part53_eq_skeleton,
        k0_part53_skel, k0_part54_eq_skeleton, k0_part54_skel, k0_part55_eq_skeleton, k0_part55_skel, k0_part56_eq_skeleton, k0_part56_skel,
        k0_part57_eq_skeleton, k0_part57_skel, k0_part58_eq_skeleton, k0_part58_skel, k0_part59_eq_skeleton, k0_part59_skel, k0_part60_eq_skeleton,
        k0_part60_skel, k0_part61_eq_skeleton, k0_part61_skel, k0_part62_eq_skeleton, k0_part62_skel, k0_part63_eq_skeleton, k0_part63_skel,
        k0_part64_eq_skeleton, k0_part64_skel,
         semSignalWord, semWaitWord, Prog.lift, Prog.bind_op, Prog.bind_ret, Prog.pure_eq_ret, wp_deviceId])
  refine BIBase.Entails.trans (turn_wait m ρ K c (y := acc m ρ c 31)) ?_
  repeat first
    | (with_reducible refine step_wait_send m ρ K c ?_ ?_ ?_ ?_
       · decide
       · rfl
       · rfl)
    | (with_reducible refine run_next c (by assumption) ?_; try dsimp only)
    | (with_reducible refine run_part c ?_; intro Q' hQ'
       simp only [k0_part1_eq_skeleton, k0_part1_skel, k0_part2_eq_skeleton, k0_part2_skel, k0_part3_eq_skeleton, k0_part3_skel, k0_part4_eq_skeleton,
        k0_part4_skel, k0_part5_eq_skeleton, k0_part5_skel, k0_part6_eq_skeleton, k0_part6_skel, k0_part7_eq_skeleton, k0_part7_skel,
        k0_part8_eq_skeleton, k0_part8_skel, k0_part9_eq_skeleton, k0_part9_skel, k0_part10_eq_skeleton, k0_part10_skel, k0_part11_eq_skeleton,
        k0_part11_skel, k0_part12_eq_skeleton, k0_part12_skel, k0_part13_eq_skeleton, k0_part13_skel, k0_part14_eq_skeleton, k0_part14_skel,
        k0_part15_eq_skeleton, k0_part15_skel, k0_part16_eq_skeleton, k0_part16_skel, k0_part17_eq_skeleton, k0_part17_skel, k0_part18_eq_skeleton,
        k0_part18_skel, k0_part19_eq_skeleton, k0_part19_skel, k0_part20_eq_skeleton, k0_part20_skel, k0_part21_eq_skeleton, k0_part21_skel,
        k0_part22_eq_skeleton, k0_part22_skel, k0_part23_eq_skeleton, k0_part23_skel, k0_part24_eq_skeleton, k0_part24_skel, k0_part25_eq_skeleton,
        k0_part25_skel, k0_part26_eq_skeleton, k0_part26_skel, k0_part27_eq_skeleton, k0_part27_skel, k0_part28_eq_skeleton, k0_part28_skel,
        k0_part29_eq_skeleton, k0_part29_skel, k0_part30_eq_skeleton, k0_part30_skel, k0_part31_eq_skeleton, k0_part31_skel, k0_part32_eq_skeleton,
        k0_part32_skel, k0_part33_eq_skeleton, k0_part33_skel, k0_part34_eq_skeleton, k0_part34_skel, k0_part35_eq_skeleton, k0_part35_skel,
        k0_part36_eq_skeleton, k0_part36_skel, k0_part37_eq_skeleton, k0_part37_skel, k0_part38_eq_skeleton, k0_part38_skel, k0_part39_eq_skeleton,
        k0_part39_skel, k0_part40_eq_skeleton, k0_part40_skel, k0_part41_eq_skeleton, k0_part41_skel, k0_part42_eq_skeleton, k0_part42_skel,
        k0_part43_eq_skeleton, k0_part43_skel, k0_part44_eq_skeleton, k0_part44_skel, k0_part45_eq_skeleton, k0_part45_skel, k0_part46_eq_skeleton,
        k0_part46_skel, k0_part47_eq_skeleton, k0_part47_skel, k0_part48_eq_skeleton, k0_part48_skel, k0_part49_eq_skeleton, k0_part49_skel,
        k0_part50_eq_skeleton, k0_part50_skel, k0_part51_eq_skeleton, k0_part51_skel, k0_part52_eq_skeleton, k0_part52_skel, k0_part53_eq_skeleton,
        k0_part53_skel, k0_part54_eq_skeleton, k0_part54_skel, k0_part55_eq_skeleton, k0_part55_skel, k0_part56_eq_skeleton, k0_part56_skel,
        k0_part57_eq_skeleton, k0_part57_skel, k0_part58_eq_skeleton, k0_part58_skel, k0_part59_eq_skeleton, k0_part59_skel, k0_part60_eq_skeleton,
        k0_part60_skel, k0_part61_eq_skeleton, k0_part61_skel, k0_part62_eq_skeleton, k0_part62_skel, k0_part63_eq_skeleton, k0_part63_skel,
        k0_part64_eq_skeleton, k0_part64_skel,
         semSignalWord, semWaitWord, Prog.lift, Prog.bind_op, Prog.bind_ret, Prog.pure_eq_ret, wp_deviceId])
  rw [Prog.pure_eq_ret]
  refine run_next c hQ0 ?_
  simp only [semWaitWord, Prog.lift, Prog.bind_op, Prog.bind_ret, Prog.pure_eq_ret, wp_deviceId]
  repeat first
    | (with_reducible refine step_wait_send m ρ K c ?_ ?_ ?_ ?_
       · decide
       · rfl
       · rfl)
    | (with_reducible refine run_next c (by assumption) ?_; try dsimp only)
    | (with_reducible refine run_part c ?_; intro Q' hQ'
       simp only [k0_part1_eq_skeleton, k0_part1_skel, k0_part2_eq_skeleton, k0_part2_skel, k0_part3_eq_skeleton, k0_part3_skel, k0_part4_eq_skeleton,
        k0_part4_skel, k0_part5_eq_skeleton, k0_part5_skel, k0_part6_eq_skeleton, k0_part6_skel, k0_part7_eq_skeleton, k0_part7_skel,
        k0_part8_eq_skeleton, k0_part8_skel, k0_part9_eq_skeleton, k0_part9_skel, k0_part10_eq_skeleton, k0_part10_skel, k0_part11_eq_skeleton,
        k0_part11_skel, k0_part12_eq_skeleton, k0_part12_skel, k0_part13_eq_skeleton, k0_part13_skel, k0_part14_eq_skeleton, k0_part14_skel,
        k0_part15_eq_skeleton, k0_part15_skel, k0_part16_eq_skeleton, k0_part16_skel, k0_part17_eq_skeleton, k0_part17_skel, k0_part18_eq_skeleton,
        k0_part18_skel, k0_part19_eq_skeleton, k0_part19_skel, k0_part20_eq_skeleton, k0_part20_skel, k0_part21_eq_skeleton, k0_part21_skel,
        k0_part22_eq_skeleton, k0_part22_skel, k0_part23_eq_skeleton, k0_part23_skel, k0_part24_eq_skeleton, k0_part24_skel, k0_part25_eq_skeleton,
        k0_part25_skel, k0_part26_eq_skeleton, k0_part26_skel, k0_part27_eq_skeleton, k0_part27_skel, k0_part28_eq_skeleton, k0_part28_skel,
        k0_part29_eq_skeleton, k0_part29_skel, k0_part30_eq_skeleton, k0_part30_skel, k0_part31_eq_skeleton, k0_part31_skel, k0_part32_eq_skeleton,
        k0_part32_skel, k0_part33_eq_skeleton, k0_part33_skel, k0_part34_eq_skeleton, k0_part34_skel, k0_part35_eq_skeleton, k0_part35_skel,
        k0_part36_eq_skeleton, k0_part36_skel, k0_part37_eq_skeleton, k0_part37_skel, k0_part38_eq_skeleton, k0_part38_skel, k0_part39_eq_skeleton,
        k0_part39_skel, k0_part40_eq_skeleton, k0_part40_skel, k0_part41_eq_skeleton, k0_part41_skel, k0_part42_eq_skeleton, k0_part42_skel,
        k0_part43_eq_skeleton, k0_part43_skel, k0_part44_eq_skeleton, k0_part44_skel, k0_part45_eq_skeleton, k0_part45_skel, k0_part46_eq_skeleton,
        k0_part46_skel, k0_part47_eq_skeleton, k0_part47_skel, k0_part48_eq_skeleton, k0_part48_skel, k0_part49_eq_skeleton, k0_part49_skel,
        k0_part50_eq_skeleton, k0_part50_skel, k0_part51_eq_skeleton, k0_part51_skel, k0_part52_eq_skeleton, k0_part52_skel, k0_part53_eq_skeleton,
        k0_part53_skel, k0_part54_eq_skeleton, k0_part54_skel, k0_part55_eq_skeleton, k0_part55_skel, k0_part56_eq_skeleton, k0_part56_skel,
        k0_part57_eq_skeleton, k0_part57_skel, k0_part58_eq_skeleton, k0_part58_skel, k0_part59_eq_skeleton, k0_part59_skel, k0_part60_eq_skeleton,
        k0_part60_skel, k0_part61_eq_skeleton, k0_part61_skel, k0_part62_eq_skeleton, k0_part62_skel, k0_part63_eq_skeleton, k0_part63_skel,
        k0_part64_eq_skeleton, k0_part64_skel,
         semSignalWord, semWaitWord, Prog.lift, Prog.bind_op, Prog.bind_ret, Prog.pure_eq_ret, wp_deviceId])
  refine BIBase.Entails.trans hend ?_
  unfold run
  rw [wp_ret]

end Cert.KernelIdealProof

end
-- ==== Proof.FinishKernelIdeal.lean ====
/-
The body's whole account on one device: what it starts from, what it leaves, its cells closed and its buffers rejoined.
-/
module

public import proofs.«01_k».proof.Proof.BodyKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

/-- A family over the 32 offsets: offset 0 and the others. -/
theorem split0 {M : Type} [URA M] (Φ : Fin 32 → sProp M) : bigSep Finset.univ Φ = iprop(Φ 0 ∗ bigSep (above 0) Φ) := by
  rw [show (Finset.univ : Finset (Fin 32)) = insert 0 (above 0) by decide, bigSep_insert (by decide)]; rfl
/-- A family over a device's cells: the barrier's, the sends', the receives'. -/
theorem cells_eq {M : Type} [URA M] (Φ : CI → sProp M) :
    bigSep Finset.univ Φ = iprop(Φ (.inl ()) ∗ (bigSep Finset.univ fun o => Φ (.inr (.inl o))) ∗ bigSep Finset.univ fun o => Φ (.inr (.inr o))) := by
  rw [bigSep_univ_sum, bigSep_univ_sum, Fintype.univ_unit, bigSep_singleton]; rfl

/-- A persistent resource and a family yield another family, member by member. -/
theorem family_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The end of the body -/

section Finish
variable (K : Dev nD × CI → ℕ) (c : Dev nD)

/-- A cell past its last duty closes: its counter, at zero, is the device's again; -/
theorem close_one (ck : Dev nD × CI) (r : ℕ) (hr : ∀ r', r ≤ r' → (meshRd (F := F) m ρ).duties (kcell ck) r' = ∅) :
    iprop(recs m ρ K ∗ atPos ER (kcell ck) r ∅ 0) ⊢ |={Set.univ}=> semVal (kcell ck) 0 := by
  iintro ⟨HI, Hat⟩
  ihave HI := (recs_inv m ρ K ck) $$ HI
  iapply (Rounds.cell_close ER (meshRd m ρ) (Set.mem_univ (K ck)) (fun h => h) (R := r) hr) $$ [HI Hat]
  isplitl [HI] <;> iassumption
/-- a family of them. -/
theorem close_family (k : Fin 32 → CI) :
    iprop(recs m ρ K ∗ bigSep (above 0) fun o => atPos ER (kcell (c, k o)) 1 ∅ 0) ⊢ |={Set.univ}=> bigSep (above 0) fun o => semVal (kcell (c, k o)) 0 :=
  (family_with fun o _ => close_one m ρ K (c, k o) 1 (duties_later m ρ _)).trans (bigSep_fupd _ _)

/-- The positions of the two cells the protocol leaves unused, and the device's own slot of its gather buffer. -/
def unused : sProp 𝕄 := iprop(atPos ER (sendCell c 0) 0 ∅ 0 ∗ atPos ER (recvCell c 0) 0 ∅ 0 ∗ ∃ f, gPts (F := F) c c f)
/-- After the body: `w` as it was, the scratch buffers whole, every counter at zero. -/
def Φ₁ : sProp 𝕄 :=
  iprop(wFull m c ∗ (bAny (F := F) c ∗ gAny (F := F) c ∗ vAny (F := F) c) ∗ (semVal (copyCell c 0) 0 ∗ semVal (copyCell c 1) 0)
    ∗ bigSep Finset.univ fun k : CI => semVal (kcell (c, k)) 0)

theorem slot_any (o : Fin 32) : recvPay m ρ c o ⊢ iprop(∃ f, gPts (F := F) c (c - o) f) := by
  unfold recvPay
  iintro ⟨%f, -, H⟩; iexists f; iexact H

theorem slots_any : (bigSep (above 0) fun o => recvPay m ρ c o) ⊢ bigSep (above 0) fun o => iprop(∃ f, gPts (F := F) c (c - o) f) :=
  bigSep_mono fun o _ => slot_any m ρ c o
theorem b_some : bFull m ρ c ⊢ bAny c := by
  unfold bAny bFull
  iintro H; iexists (xcast m ρ c); iexact H
/-- The rows of the bf16 copy, all back. -/
theorem b_join : iprop(bPts m ρ c c ∗ bigSep (above 0) fun o => sendPay m ρ c o) ⊢ bAny c :=
  BIBase.Entails.trans (Entails.of_eq (b_cut m ρ c).symm) (b_some m ρ c)

theorem free_both : iprop(Free m c 0 ∗ Free m c 1) ⊢ iprop(vAny (F := F) c ∗ wFull m c ∗ semVal (copyCell c 0) 0 ∗ semVal (copyCell c 1) 0) := by
  unfold Free
  iintro ⟨⟨Hv0, Hs0, Hw0⟩, Hv1, Hs1, Hw1⟩
  isplitl [Hv0 Hv1]
  · iapply (v_join (F := F) c); isplitl [Hv0] <;> iassumption
  isplitl [Hw0 Hw1]
  · iapply (w_cut (F := F) m c).2; isplitl [Hw0] <;> iassumption
  isplitl [Hs0] <;> iassumption

/-- What the body leaves, put together. -/
theorem finish (y : Vec F S256x4096 .f32) :
    iprop(SF m ρ K c 31 ∗ LE m ρ c y ∗ bPts m ρ c c ∗ atPos ER (barCell c) 1 ∅ 0 ∗ unused c)
      ⊢ |={Set.univ}=> iprop(Φ₁ m c ∗ OW c 0 ∗ xPts m ρ c ∗ yPts c y) := by
  unfold SF LE unused Φ₁
  rw [done_31, cells_eq, split0 (fun o => semVal (kcell (c, .inr (.inl o))) 0), split0 (fun o => semVal (kcell (c, .inr (.inr o))) 0)]
  rw [bigSep_sep' (above 0) (fun o => atPos ER (sendCell c o) 1 ∅ 0) (fun o => sendPay m ρ c o),
    bigSep_sep' (above 0) (fun o => atPos ER (recvCell c o) 1 ∅ 0) (fun o => recvPay m ρ c o)]
  iintro ⟨⟨#HI, HO, -, Hats, Hb⟩, ⟨Hf0, Hf1, ⟨Hatr, Hg⟩, Hx, Hy⟩, Hb0, HatB, HatS, HatR, Hg0⟩
  imod (close_one m ρ K (c, .inl ()) 1 (duties_later m ρ _)) $$ [HatB] with HzB
  · isplitr; · iexact HI
    iexact HatB
  imod (close_one m ρ K (c, .inr (.inl 0)) 0 (duties_send0 m ρ c)) $$ [HatS] with HzS
  · isplitr; · iexact HI
    iexact HatS
  imod (close_one m ρ K (c, .inr (.inr 0)) 0 (duties_recv0 m ρ c)) $$ [HatR] with HzR
  · isplitr; · iexact HI
    iexact HatR
  imod (close_family m ρ K c fun o => .inr (.inl o)) $$ [Hats] with HzSs
  · isplitr; · iexact HI
    iexact Hats
  imod (close_family m ρ K c fun o => .inr (.inr o)) $$ [Hatr] with HzRs
  · isplitr; · iexact HI
    iexact Hatr
  imodintro
  ihave Hf := (free_both m c) $$ [Hf0 Hf1]
  · isplitl [Hf0] <;> iassumption
  icases Hf with ⟨Hv, Hw, Hs⟩
  isplitr [HO Hx Hy]
  · isplitl [Hw]; · iexact Hw
    isplitl [Hb0 Hb Hg0 Hg Hv]
    · isplitl [Hb0 Hb]
      · iapply (b_join m ρ c)
        isplitl [Hb0] <;> iassumption
      isplitl [Hg0 Hg]
      · iapply (g_join (F := F) c)
        isplitl [Hg0]; · iexact Hg0
        iapply (slots_any m ρ c); iexact Hg
      iexact Hv
    isplitl [Hs]; · iexact Hs
    isplitl [HzB]; · iexact HzB
    isplitl [HzS HzSs]
    · isplitl [HzS] <;> iassumption
    isplitl [HzR] <;> iassumption
  isplitl [HO]; · iexact HO
  isplitl [Hx] <;> iassumption

end Finish

/-! ## The account the launch keeps of the body -/

/-- What every device knows of the cells, the levels apart. -/
def recs₀ (K : Dev nD × CI → ℕ) : sProp 𝕄 :=
  iprop((bigSep Finset.univ fun ck : Dev nD × CI => cellInv ER (meshRd m ρ) (K ck) (kcell ck)) ∗ bigSep Finset.univ fun ck : Dev nD × CI => reached ER (kcell ck) 0)
instance recs₀_persistent (K : Dev nD × CI → ℕ) : BI.Persistent (recs₀ (F := F) m ρ K) := by unfold recs₀; infer_instance

/-- The duties device `c` pays: one of every other device's barrier, its sends, the receives of its blocks. -/
def payToks (c : Dev nD) : sProp 𝕄 :=
  iprop((bigSep (above 0) fun o => dutyTok ER (barCell (c + o)) 0 (-o)) ∗ (bigSep (above 0) fun o => dutyTok ER (sendCell c o) 0 0)
    ∗ bigSep (above 0) fun o => dutyTok ER (recvCell (c + o) o) 0 0)
/-- What is device `c`'s alone at launch: its two local counters, its positions, its duties. -/
def own₀ (c : Dev nD) : sProp 𝕄 :=
  iprop((semVal (copyCell c 0) 0 ∗ semVal (copyCell c 1) 0) ∗ (bigSep Finset.univ fun k : CI => atPos ER (kcell (c, k)) 0 ∅ 0) ∗ payToks c)
def creds₀ (c : Dev nD) : sProp 𝕄 :=
  iprop(cred (tallyAt (barCell c) () 31) ∗ bigSep (above 0) fun o => cred (tallyAt (recvCell c o) () N))
/-- What device `c` starts from. -/
def start (c : Dev nD) : sProp 𝕄 := iprop((∃ K, recs₀ m ρ K ∗ own₀ c) ∗ levAts L lv ∗ creds₀ c ∗ wFull m c)
/-- That and its scratch buffers. -/
def Φ₀ (c : Dev nD) : sProp 𝕄 := iprop(start m ρ c ∗ bAny (F := F) c ∗ gAny (F := F) c ∗ vAny (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => acc m ρ c 31
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xstg m ρ c) ∗ stg c cc0_stg1_0 (acc m ρ c 31))

/-- What the launch deals device `c` is what its body runs from. -/
theorem deal (K : Dev nD × CI → ℕ) (c : Dev nD) (y : Vec F S256x4096 .f32) :
    iprop((recs₀ m ρ K ∗ own₀ c) ∗ (levAts L lv ∗ creds₀ c ∗ wFull m c) ∗ (bAny (F := F) c ∗ gAny (F := F) c ∗ vAny (F := F) c) ∗ OW c (O₀ c) ∗ xPts m ρ c ∗ yPts c y)
      ⊢ iprop(SA m ρ K c 0 ∗ cred (tallyAt (barCell c) () 31) ∗ atPos ER (barCell c) 0 ∅ 0 ∗ xPts m ρ c ∗ bAny c ∗ G1 c ∗ Free m c 0
        ∗ Free m c 1 ∗ yPts c y ∗ G2 c ∗ G3 c ∗ unused c) := by
  unfold recs₀ own₀ creds₀ payToks SA recs G1 G2 G3 Free unused
  rw [cells_eq, split0 (fun o => atPos ER (kcell (c, .inr (.inl o))) 0 ∅ 0), split0 (fun o => atPos ER (kcell (c, .inr (.inr o))) 0 ∅ 0)]
  simp only [bigSep_sep']
  iintro ⟨⟨⟨HI, HR⟩, ⟨Hs0, Hs1⟩, ⟨HaB, ⟨HaS0, HaS⟩, HaR0, HaR⟩, HtB, HtS, HtR⟩, ⟨Hlev, ⟨HcB, HcR⟩, Hw⟩, ⟨Hb, Hg, Hv⟩, HO, Hx, Hy⟩
  ihave Hg := (g_cut (F := F) c) $$ Hg
  icases Hg with ⟨Hg0, Hg⟩
  ihave Hv := (v_cut (F := F) c) $$ Hv
  icases Hv with ⟨Hv0, Hv1⟩
  ihave Hw := (w_cut (F := F) m c).1 $$ Hw
  icases Hw with ⟨Hw0, Hw1⟩
  isplitl [HI HR Hlev HO HtB Hg]
  · isplitl [HI HR Hlev]
    · isplitl [HI]; · iexact HI
      isplitl [HR] <;> iassumption
    isplitl [HO]; · iexact HO
    isplitl [HtB] <;> iassumption
  isplitl [HcB]; · iexact HcB
  isplitl [HaB]; · iexact HaB
  isplitl [Hx]; · iexact Hx
  isplitl [Hb]; · iexact Hb
  isplitl [HtS HtR]
  · isplitl [HtS]; · iexact HtS
    iexact HtR
  isplitl [Hv0 Hs0 Hw0]
  · isplitl [Hv0]; · iexact Hv0
    isplitl [Hs0] <;> iassumption
  isplitl [Hv1 Hs1 Hw1]
  · isplitl [Hv1]; · iexact Hv1
    isplitl [Hs1] <;> iassumption
  isplitl [Hy]; · iexact Hy
  isplitl [HaR HcR]
  · isplitl [HaR]; · iexact HaR
    iexact HcR
  isplitl [HaS]; · iexact HaS
  isplitl [HaS0]; · iexact HaS0
  isplitl [HaR0]; · iexact HaR0
  iexact Hg0

theorem owes_some (c : Dev nD) (O : CellTallies nD τ sig Unit) (W) : (owes (c : Thread nD τ) O W : sProp 𝕄) ⊢ OW c O := by
  unfold OW; iintro H; iexists W; iexact H

/-- The body from what the launch deals to what it takes back. -/
theorem sound_body (c : Dev nD) : bodyPre m ρ c ⊢ run c theBody (fun _ => bodyPost m ρ c) := by
  unfold bodyPre Φ₀ start
  iintro ⟨⟨⟨⟨%K, Hg⟩, Hrest⟩, Hscr⟩, Ho, ⟨%d0, %g0, %hg0, Hx⟩, ⟨%d1, %g1, %hg1, Hy⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (body_run m ρ K c g1 (unused c) (fun _ => bodyPost m ρ c) ((finish m ρ K c _).trans (BI.fupd_mono (by
    unfold OW xPts yPts bodyPost Dat.owesAt Pipeline.owesWithin
    rw [show (dats m ρ 0 c).owed t0_0.succ = 0 from rfl]
    iintro ⟨H1, ⟨%W', HO⟩, Hx, Hy⟩
    isplitl [H1]; · iexact H1
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hy))))
  iapply (deal m ρ K c g1)
  ihave HO := (owes_some c (O₀ c) W) $$ HO
  isplitl [Hg]; · iexact Hg
  isplitl [Hrest]; · iexact Hrest
  isplitl [Hscr]; · iexact Hscr
  isplitl [HO]; · iexact HO
  unfold xPts yPts
  isplitl [Hx] <;> iassumption

set_option maxRecDepth 20000 in
/-- The obligation the launch asks of the body, on every device. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ run c theBody fun _ => bodyPost m ρ c
  exact sound_body m ρ c

end Cert.KernelIdealProof

end
-- ==== Proof.RunKernelIdeal.lean ====
/-
The launch on the mesh: the protocol's cells allocated for all devices at once, the duties dealt to the devices that pay
them, the credit each device may count on, and the run of the whole program.
-/
module

public import proofs.«01_k».proof.Proof.FinishKernelIdeal
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties at launch -/

/-- The kernel's own semaphores: the two of the local copies, the sends', the receives'. -/
def osem : Fin 2 ⊕ (Fin 32 ⊕ Fin 32) → SemLoc sig
  | .inl b => .dma (copyS b)
  | .inr (.inl o) => .dma (sendS o)
  | .inr (.inr o) => .dma (recvS o)

set_option maxRecDepth 20000 in
theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  rintro (_ | (o | o)) (_ | (o' | o')) h
  · rfl
  · exact absurd h (by simp [csem])
  · exact absurd h (by simp [csem])
  · exact absurd h (by simp [csem])
  · have := congrArg (fun s : SemLoc sig => match s with | .dma q => q.val | .reg _ => 0) h
    simp only [csem, sendS] at this
    rw [Fin.ext (a := o) (b := o') (by omega)]
  · have := congrArg (fun s : SemLoc sig => match s with | .dma q => q.val | .reg _ => 0) h
    simp only [csem, sendS, recvS] at this
    have := o.isLt; omega
  · exact absurd h (by simp [csem])
  · have := congrArg (fun s : SemLoc sig => match s with | .dma q => q.val | .reg _ => 0) h
    simp only [csem, sendS, recvS] at this
    have := o'.isLt; omega
  · have := congrArg (fun s : SemLoc sig => match s with | .dma q => q.val | .reg _ => 0) h
    simp only [csem, recvS] at this
    rw [Fin.ext (a := o) (b := o') (by omega)]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def meshCells : Finset (GSem nD τ sig) := Finset.univ.map ⟨kcell, kcell_injective⟩

/-- A duty of a device's cells: a barrier duty for each offset, each send's, each receive's. -/
abbrev tokOf (cj : Dev nD × (Fin 32 ⊕ (Fin 32 ⊕ Fin 32))) : GSem nD τ sig × ℕ × Fin 32 := match cj.2 with
  | .inl o => (barCell cj.1, 0, o)
  | .inr (.inl o) => (sendCell cj.1 o, 0, 0)
  | .inr (.inr o) => (recvCell cj.1 o, 0, 0)
theorem tokOf_injective : Function.Injective tokOf := by
  have hc : ∀ x : Dev nD × (Fin 32 ⊕ (Fin 32 ⊕ Fin 32)), (tokOf x).1 = kcell (x.1, match x.2 with | .inl _ => .inl () | .inr k => .inr k) := by
    rintro ⟨c, (o | (o | o))⟩ <;> rfl
  rintro ⟨c, j⟩ ⟨c', j'⟩ h
  have h1 := kcell_injective ((hc _).symm.trans ((congrArg Prod.fst h).trans (hc _)))
  have h2 : c = c' := congrArg Prod.fst h1
  have h3 := congrArg Prod.snd h1
  subst h2
  rcases j with o | k <;> rcases j' with o' | k'
  · rw [show o = o' from congrArg (fun x : GSem nD τ sig × ℕ × Fin 32 => x.2.2) h]
  · exact absurd h3 (by simp)
  · exact absurd h3 (by simp)
  · rw [show k = k' from Sum.inr.inj h3]
def meshToks : Finset (GSem nD τ sig × ℕ × Fin 32) := Finset.univ.map ⟨tokOf, tokOf_injective⟩

def u₀ : UU := (initOf (Pipeline.cells cfgs cellOf_inj) (Pipeline.launchToks cfgs cellOf_inj), (initOf meshCells meshToks, 1))

/-- The duties of device `c`'s own cells. -/
def toks (c : Dev nD) : sProp 𝕄 :=
  iprop((bigSep Finset.univ fun o => dutyTok ER (barCell c) 0 o) ∗ (bigSep Finset.univ fun o => dutyTok ER (sendCell c o) 0 0)
    ∗ bigSep Finset.univ fun o => dutyTok ER (recvCell c o) 0 0)

/-- What the launch element deals device `c`. -/
def G (c : Dev nD) : sProp 𝕄 :=
  iprop((bigSep Finset.univ fun k : CI => roundState ER (meshRd m ρ) (kcell (c, k)) 0)
    ∗ (bigSep Finset.univ fun k : CI => iprop(atPos ER (kcell (c, k)) 0 ∅ 0 ∗ reached ER (kcell (c, k)) 0)) ∗ toks c)
/-- What the global step makes of it. -/
def G' (c : Dev nD) : sProp 𝕄 := iprop(∃ K, recs₀ m ρ K ∗ own₀ c)

theorem toks_eq (c : Dev nD) :
    (bigSep Finset.univ fun j => dutyTok ER (tokOf (c, j)).1 (tokOf (c, j)).2.1 (tokOf (c, j)).2.2 : sProp 𝕄) = toks c := by
  unfold toks; rw [bigSep_univ_sum, bigSep_univ_sum]; rfl

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : CI => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => toks_eq c
  iintro HX
  imod (Rounds.fund ER (meshRd m ρ) meshCells meshToks) $$ HX with ⟨Hst, Hr, Hat, Htok⟩
  imodintro
  ihave Hst' := (Entails.of_eq (hX fun g => roundState ER (meshRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The same, at the place the launch element holds it. -/
theorem fund_launch : BI.own (((Emb.inl : Emb UB (UB × Counters)).trans (embR : Emb (UB × Counters) (MT nD τ sig Unit (Elt F) ℕ UU ℕ))) (initOf meshCells meshToks))
    ⊢ (|==> bigSep Finset.univ (G m ρ) : sProp 𝕄) := fund_mesh m ρ

/-! ## The counters at launch -/

theorem ownSems0_eq (c : Dev nD) : (Pipeline.ownSems0 (Ix := Unit) (Name := ℕ) (U := UU) (Lvl := ℕ) (Val := Elt F) (τ := τ) osem c : sProp 𝕄)
    = iprop((semVal (copyCell c 0) 0 ∗ semVal (copyCell c 1) 0)
      ∗ (bigSep Finset.univ fun o => semVal (sendCell c o) 0) ∗ bigSep Finset.univ fun o => semVal (recvCell c o) 0) := by
  unfold Pipeline.ownSems0
  rw [bigSep_univ_sum, bigSep_univ_sum, bigSep_fin_two]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters: the two of its local copies, and its cells'. -/
theorem sems0_eq (c : Dev nD) :
    iprop(Pipeline.ownSems0 (Ix := Unit) (Name := ℕ) (U := UU) (Lvl := ℕ) (Val := Elt F) (τ := τ) osem c ∗ unscopedSems0 c)
      ⊢ iprop((semVal (copyCell c 0) 0 ∗ semVal (copyCell c 1) 0) ∗ bigSep Finset.univ fun k : CI => (semVal (kcell (c, k)) 0 : sProp 𝕄)) := by
  rw [ownSems0_eq, unscopedSems0_eq, cells_eq]
  iintro ⟨⟨HC, HS, HV⟩, HB⟩
  isplitl [HC]; · iexact HC
  isplitl [HB]; · iexact HB
  isplitl [HS]; · iexact HS
  iexact HV
theorem sems0_back (c : Dev nD) :
    iprop((semVal (copyCell c 0) 0 ∗ semVal (copyCell c 1) 0) ∗ bigSep Finset.univ fun k : CI => (semVal (kcell (c, k)) 0 : sProp 𝕄))
      ⊢ iprop(unscopedSems0 c ∗ Pipeline.ownSems0 (Ix := Unit) (Name := ℕ) (U := UU) (Lvl := ℕ) (Val := Elt F) (τ := τ) osem c) := by
  rw [ownSems0_eq, unscopedSems0_eq, cells_eq]
  iintro ⟨HC, HB, HS, HV⟩
  isplitl [HB]; · iexact HB
  isplitl [HC]; · iexact HC
  isplitl [HS]; · iexact HS
  iexact HV

/-! ## The global step -/

/-- A device's cells, each under an invariant. -/
def allocd (c : Dev nD) : sProp 𝕄 := bigSep Finset.univ fun k : CI => iprop(∃ κ : ℕ, cellInv ER (meshRd m ρ) κ (kcell (c, k)))

theorem cells_alloc (c : Dev nD) :
    iprop((bigSep Finset.univ fun k : CI => semVal (kcell (c, k)) 0) ∗ bigSep Finset.univ fun k : CI => roundState ER (meshRd m ρ) (kcell (c, k)) 0)
      ⊢ |={Set.univ}=> allocd m ρ c := by
  rw [← bigSep_sep']
  exact (bigSep_mono fun k _ => (Rounds.body_intro ER (meshRd m ρ) (kcell (c, k))).trans inv_alloc).trans (bigSep_fupd _ _)

/-- The counters of a device's local copies. -/
def copies (c : Dev nD) : sProp 𝕄 := iprop(semVal (copyCell c 0) 0 ∗ semVal (copyCell c 1) 0)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(copies c ∗ allocd m ρ c
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  icases Hv with ⟨Hc, Hv⟩
  imod (cells_alloc m ρ c) $$ [Hv Hst] with Hinv
  · isplitl [Hv] <;> iassumption
  imodintro
  isplitl [Hc]; · unfold copies; iexact Hc
  isplitl [Hinv]; · iexact Hinv
  isplitl [Hat]; · iexact Hat
  iexact Htok

/-- Who pays a barrier duty: `(c, o)` is paid by device `c + o`, to which it lies at offset `-o`. -/
def barPayer : Dev nD × Fin 32 ≃ Dev nD × Fin 32 where
  toFun x := (x.1 + x.2, -x.2)
  invFun x := (x.1 + x.2, -x.2)
  left_inv x := by rcases x with ⟨c, o⟩; show (c + o + -o, - -o) = _; rw [neg_neg, add_neg_cancel_right]
  right_inv x := by rcases x with ⟨c, o⟩; show (c + o + -o, - -o) = _; rw [neg_neg, add_neg_cancel_right]
/-- Whose receive cell the send at offset `o` pays. -/
def recvPayer : Dev nD × Fin 32 ≃ Dev nD × Fin 32 where
  toFun x := (x.1 + x.2, x.2)
  invFun x := (x.1 - x.2, x.2)
  left_inv x := by rcases x with ⟨c, o⟩; show (c + o - o, o) = _; rw [add_sub_cancel_right]
  right_inv x := by rcases x with ⟨c, o⟩; show (c - o + o, o) = _; rw [sub_add_cancel]

/-- A family over pairs of a device and an offset, dealt out again. -/
theorem redeal {M : Type} [URA M] (e : Dev nD × Fin 32 ≃ Dev nD × Fin 32) (Φ : Dev nD → Fin 32 → sProp M) :
    (bigSep Finset.univ fun c => bigSep Finset.univ fun o => Φ c o) = bigSep Finset.univ fun c => bigSep Finset.univ fun o => Φ (e (c, o)).1 (e (c, o)).2 := by
  rw [← bigSep_univ_prod (fun x : Dev nD × Fin 32 => Φ x.1 x.2), bigSep_univ_equiv e, bigSep_univ_prod]

/-- The offset 0 of a family left out. -/
theorem others (Φ : Fin 32 → sProp 𝕄) : bigSep Finset.univ Φ ⊢ bigSep (above 0) Φ := by
  rw [split0]; iintro ⟨-, H⟩; iexact H

/-- The duties dealt to the devices that pay them. -/
theorem toks_around : (bigSep Finset.univ fun c : Dev nD => (toks c : sProp 𝕄)) ⊢ bigSep Finset.univ fun c : Dev nD => payToks c := by
  have h (c : Dev nD) : iprop((bigSep Finset.univ fun o => dutyTok ER (barCell (barPayer (c, o)).1) 0 (barPayer (c, o)).2)
      ∗ (bigSep Finset.univ fun o => dutyTok ER (sendCell c o) 0 0)
      ∗ bigSep Finset.univ fun o => dutyTok ER (recvCell (recvPayer (c, o)).1 (recvPayer (c, o)).2) 0 0) ⊢ (payToks c : sProp 𝕄) := by
    unfold payToks
    exact BIClass.sep_mono (others _) (BIClass.sep_mono (others _) (others _))
  unfold toks
  rw [bigSep_sep', bigSep_sep', redeal barPayer (fun c o => dutyTok ER (barCell c) 0 o), redeal recvPayer (fun c o => dutyTok ER (recvCell c o) 0 0),
    ← bigSep_sep', ← bigSep_sep']
  exact bigSep_mono fun c _ => h c

/-- What stays with a device when the invariants are shared. -/
theorem ghost_intro (K : Dev nD × CI → ℕ) (c : Dev nD) : iprop(recs₀ m ρ K ∗ own₀ c) ⊢ G' m ρ c := by
  unfold G'; iintro H; iexists K; iexact H

/-- What is each device's alone, put together. -/
theorem own_join : iprop((bigSep Finset.univ fun c : Dev nD => copies c) ∗ (bigSep Finset.univ fun c : Dev nD => bigSep Finset.univ fun k : CI => atPos ER (kcell (c, k)) 0 ∅ 0)
    ∗ bigSep Finset.univ fun c : Dev nD => payToks c) ⊢ (bigSep Finset.univ fun c : Dev nD => own₀ c : sProp 𝕄) := by
  have h (c : Dev nD) : iprop(copies c ∗ (bigSep Finset.univ fun k : CI => atPos ER (kcell (c, k)) 0 ∅ 0) ∗ payToks c) ⊢ (own₀ c : sProp 𝕄) := by
    unfold own₀ copies; iintro H; iexact H
  rw [← bigSep_sep', ← bigSep_sep']
  exact bigSep_mono fun c _ => h c

theorem regroup :
    (bigSep Finset.univ fun c : Dev nD => iprop(copies c ∗ allocd m ρ c
          ∗ (bigSep Finset.univ fun k : CI => iprop(atPos ER (kcell (c, k)) 0 ∅ 0 ∗ reached ER (kcell (c, k)) 0)) ∗ toks c) : sProp 𝕄)
      ⊢ bigSep Finset.univ (G' m ρ) := by
  unfold allocd
  rw [bigSep_sep', bigSep_sep', bigSep_sep', ← bigSep_univ_prod (fun ck : Dev nD × CI => iprop(∃ κ : ℕ, cellInv ER (meshRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep' Finset.univ (fun c : Dev nD => bigSep Finset.univ fun k : CI => (atPos ER (kcell (c, k)) 0 ∅ 0 : sProp 𝕄)),
    ← bigSep_univ_prod (fun ck : Dev nD × CI => (reached ER (kcell ck) 0 : sProp 𝕄))]
  iintro ⟨HC, HI, ⟨Hat, #HR⟩, Htok⟩
  ihave HK := (BI.bigSep_exists_pi Finset.univ (fun (ck : Dev nD × CI) (κ : ℕ) => (cellInv ER (meshRd m ρ) κ (kcell ck) : sProp 𝕄))) $$ HI
  icases HK with ⟨%K, #HI⟩
  ihave Htk := (toks_around (F := F)) $$ Htok
  iapply (family_with (R := recs₀ m ρ K) fun c _ => ghost_intro m ρ K c)
  isplitr
  · unfold recs₀; isplitl; · iexact HI
    iexact HR
  iapply (own_join (F := F))
  isplitl [HC]; · iexact HC
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem bar_eq_iff {a b : Dev nD} : Iff (barCell a = barCell b) (a = b) :=
  ⟨fun h => congrArg (fun g : GSem nD τ sig => g.1.1) h, fun h => h ▸ rfl⟩
theorem recv_eq_iff {a b : Dev nD} {o o' : Fin 32} : Iff (recvCell a o = recvCell b o') (a = b ∧ o = o') :=
  ⟨fun h => by
    have := kcell_injective (a₁ := (a, .inr (.inr o))) (a₂ := (b, .inr (.inr o'))) h
    exact ⟨congrArg Prod.fst this, Sum.inr.inj (Sum.inr.inj (congrArg Prod.snd this))⟩, fun h => by rw [h.1, h.2]⟩
theorem bar_ne_recv {a b : Dev nD} {o : Fin 32} : barCell a ≠ recvCell b o := fun h => by
  have := congrArg Prod.snd h; exact absurd this (by simp)

/-- What device `d` owes device `c`'s barrier; -/
theorem owed_bar (d c : Dev nD) : O₀ d (barCell c) () = ∑ o ∈ above 0, if c = d + o then 1 else 0 := by
  unfold O₀ Orecv Obar
  rw [Pi.add_apply, Finsupp.add_apply, sum_tally_apply, sum_tally_apply, Finset.sum_eq_zero fun o _ => if_neg bar_ne_recv, Nat.zero_add]
  exact Finset.sum_congr rfl fun o _ => by simp only [bar_eq_iff]
/-- and its receive cell at offset `o`. -/
theorem owed_recv (d c : Dev nD) (o : Fin 32) (ho : o ≠ 0) : O₀ d (recvCell c o) () = if d = c - o then N else 0 := by
  unfold O₀ Orecv Obar
  rw [Pi.add_apply, Finsupp.add_apply, sum_tally_apply, sum_tally_apply, Finset.sum_eq_zero (f := fun o' => if recvCell c o = barCell (d + o') then 1 else 0)
    fun o' _ => if_neg fun h => bar_ne_recv h.symm, Nat.add_zero]
  simp only [recv_eq_iff]
  rw [Finset.sum_eq_single o]
  · by_cases h : d = c - o
    · rw [if_pos h, if_pos ⟨by rw [h, sub_add_cancel], rfl⟩]
    · rw [if_neg h, if_neg fun h' => h (by rw [h'.1, add_sub_cancel_right])]
  · exact fun o' _ h => if_neg fun h' => h h'.2.symm
  · intro h; exact absurd (mem_above.mpr (Nat.pos_of_ne_zero fun h' => ho (Fin.ext h'))) h

theorem owed_bar_all (c : Dev nD) : (∑ d : Dev nD, ∑ o ∈ above 0, if c = d + o then 1 else 0) = 31 := by revert c; decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  exact owed_bar_all c
theorem launch_recv (c : Dev nD) (o : Fin 32) (ho : o ≠ 0) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d c o ho, Finset.sum_ite_eq' Finset.univ (c - o) fun _ => N,
    if_pos (Finset.mem_univ _)]

/-- The receive semaphores of positive offsets, among a device's semaphores without the barrier's. -/
def recvLocs : Finset (SemLoc sig) := (above 0).map ⟨fun o => SemLoc.dma (recvS o), fun o o' h => by
  exact Sum.inr.inj (Sum.inr.inj (csem_injective (a₁ := .inr (.inr o)) (a₂ := .inr (.inr o')) h))⟩
theorem recvLocs_sub : recvLocs ⊆ Finset.univ.erase (SemLoc.reg barS) := fun s hs => by
  obtain ⟨o, -, rfl⟩ := Finset.mem_map.mp hs
  exact Finset.mem_erase.mpr ⟨by simp, Finset.mem_univ _⟩

theorem creds (c : Dev nD) : (Pipeline.launchCred O₀ c : sProp 𝕄) ⊢ creds₀ c := by
  unfold Pipeline.launchCred creds₀
  rw [bigSep_univ_at _ (SemLoc.reg barS), launch_bar]
  have e : (bigSep recvLocs fun sm => cred (tallyOn ((c : Thread nD τ), sm) (launchCredit (Pipeline.owing O₀) 0 ((c : Thread nD τ), sm))) : sProp 𝕄)
      = bigSep (above 0) fun o => cred (tallyAt (recvCell c o) () N) := by
    unfold recvLocs
    rw [bigSep_map]
    exact bigSep_congr fun o ho => congrArg _ (launch_recv c o fun h => by rw [h] at ho; exact absurd (mem_above.mp ho) (by decide))
  rw [← e]
  exact sep_mono_right (bigSep_subset recvLocs_sub)

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start G' wFull wbuf
  isplitl
  · isplitl [HG]; · iexact HG
    isplitl [Hlev]; · iexact Hlev
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bAny gAny vAny
  iintro ⟨Hs, -, Hr⟩
  isplitl [Hs] <;> iassumption

theorem phi1_exit (c : Dev nD) :
    (dats m ρ 0 c).Φ (Fin.last cfg0.N) ⊢ iprop((unscopedSems0 c ∗ wFull m c) ∗ Pipeline.ownSems0 osem c ∗ Pipeline.scopedRest cfg0.spec c) := by
  rw [show (dats m ρ 0 c).Φ (Fin.last cfg0.N) = Φ₁ m c from rfl, scopedRest0_eq]
  unfold Φ₁ bAny gAny vAny
  iintro ⟨Hw, Hr, Hs⟩
  ihave Hs := (sems0_back (F := F) c) $$ Hs
  icases Hs with ⟨Hu, Ho⟩
  isplitl [Hu Hw]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read of a final state: the barrier's counter at zero, `w` as it was. -/
def QY (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem read_end (c : Dev nD) (s' : Phys nD τ sig (Elt F)) :
    iprop((unscopedSems0 c ∗ wFull m c) ∗ emp ∗ SI s') ⊢ |={Set.univ}=> iprop(⌜QY m c s'.mem⌝ ∗ SI s' : sProp 𝕄) := by
  unfold wFull QY
  iintro ⟨⟨Hu, Hw⟩, -, HSI⟩
  icombine HSI Hw gives %hw
  imod (Pipeline.unscopedSems0_read (X := unscopedSems0 c) (c := c) fupd_intro s') $$ [Hu HSI] with ⟨%hu, HSI⟩
  · isplitl [Hu] <;> iassumption
  imodintro
  isplitr
  · ipureintro; exact ⟨Buf.eq_of_forall_mem_univ hw, hu⟩
  iexact HSI

/-! ## The run -/

/-- The contents a window's array ends with. -/
def finalA (c : Dev nD) (w : Fin cfg0.W) : Buf (Elt F) ((cfg0.win w).arr.view.loc (c : Thread nD τ)) := (dats m ρ 0 c).arrAt w cfg0.N

/-- At the end, on every device: each window's array at its contents, `w` as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 40000 in
/-- From any memory with zero counters every execution of the program ends, with each device's result at the accumulator of
    its 32 blocks, both operands as they were and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HR⟩
      ihave H := (own_pair_emb _ _ _) $$ HR
      icases H with ⟨HX, -⟩
      imod (fund_launch m ρ) $$ HX with HG
      imodintro
      isplitl [HP] <;> iassumption)
    (hglob := glob m ρ)
    (hA := fun _ _ => rfl) (hpf := fun _ k => k.elim0)
    (X := start m ρ) (Y := fun c => iprop(unscopedSems0 c ∗ wFull m c)) (Z := fun _ => iprop(emp))
    (hX := start_intro m ρ) (hin := phi0_intro m ρ) (hout := phi1_exit m ρ)
    (QY := QY m) (hY := read_end m)
    (hQ := fun _ h hs => ⟨fun c => ⟨fun w => (h c).1 w, (h c).2.2.1⟩, sem_eq_zero hs fun c => (h c).2.2.2⟩)

end Cert.KernelIdealProof

end
-- ==== Proof.Value.lean ====
/- What the kernel's result holds, and that over the extended reals it is the device's rows of `x @ w`. -/
module

public import proofs.«01_k».proof.Defs
public import proofs.«01_k».proof.Proof.RunKernelIdeal
public import proofs.«01_k».proof.Proof.Gen.KernelIdeal.Points
public import Idealize.ShloMosaic.Lib.Pipeline.Value
public import Idealize.ShloMosaic.Lib.StackMember
public import Idealize.ShloMosaic.Lib.ValueLayout

@[expose] public section

noncomputable section

namespace Cert.KernelIdealProof

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

section AnyFloat

variable {F : FTy → Type} [FloatOps F]
variable (m : (ℓ : Loc nD τ sig) → Buf (Elt F) ℓ) (ρ : Dev nD → PrngReg)

/-- The accumulator after the last block, as contents of the result array. -/
def result (c : Dev nD) : Buf (Elt F) ((c : Thread nD τ).loc main_v1) := acc m ρ c 31

/-- The one write-back writes the result array whole. -/
theorem flushed_result (c : Dev nD) (t : Fin cfg0.N) (hf : (cfg0.win 1).flush t = true) :
    (dats m ρ 0 c).flushed 1 t = ((cfg0.win 1).blk t).view.read (Elt F) (result m ρ c) := by
  obtain rfl : t = t0_0 := fin_N0 t
  have hz : (fun a => win0_1.index t0_0 a * main_v1.ty.shape.size a) = fun _ => 0 := funext fun a => by fin_cases a <;> decide
  show (cfg0.win 1).cut (grid0.coords t0_0) (acc m ρ c 31) = _
  exact (Memref.read_access_unit_zero (Elt F) main_v1 hz (fun a => by rw [congrFun hz a]; simp) (result m ρ c)).symm

/-- So the result array ends holding the accumulator after the last block. -/
theorem final_result (c : Dev nD) : (dats m ρ 0 c).arrAt 1 cfg0.N = result m ρ c :=
  (dats m ρ 0 c).arrAt_eq_of_cover 1 (result m ρ c) (flushed_result m ρ c) fun i =>
    ⟨t0_0, flush0_1 t0_0, by
      show i ∈ ((View.whole main_v1).slice (win0_1.rect t0_0)).set
      rw [View.set_slice_whole, Rect.mem_set_unit]
      intro a
      have h0 : (i 0 : Nat) < 256 := (i 0).isLt
      have h1 : (i 1 : Nat) < 4096 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 256 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 4096 from by decide +kernel]; omega⟩

/-- The staged `x` is the argument. -/
theorem xstg_eq (c : Dev nD) : xstg m ρ c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) (m ((c : Thread nD τ).loc main_arg0))

/-- Row `r` of block `t`, of 32 blocks of 256 rows. -/
def row (t : Fin 32) (r : Fin 256) : Fin 8192 := ⟨256 * t.val + r.val, by have := t.isLt; have := r.isLt; omega⟩

/-- The device's own block of `x`, read at an index; -/
theorem xown_apply (c : Dev nD) (r k : Fin 256) : xown m ρ c (ix2 r k) = m ((c : Thread nD τ).loc main_arg0) (ix2 (row c r) k) := by
  unfold xown
  rw [xstg_eq]
  refine congrArg (m ((c : Thread nD τ).loc main_arg0)) (funext fun a => Fin.ext ?_)
  match a with
  | ⟨0, _⟩ => show 256 * c.val + 1 * r.val = 256 * c.val + r.val; omega
  | ⟨1, _⟩ => show 0 + 1 * k.val = k.val; omega

/-- a block of `w`. -/
theorem wblk_apply (c s : Dev nD) (k : Fin 256) (n : Fin 4096) : wblk m c s (ix2 k n) = m ((c : Thread nD τ).loc main_arg1) (ix2 (row s k) n) := by
  unfold wblk wbuf
  rw [View.read_apply]
  refine congrArg (m ((c : Thread nD τ).loc main_arg1)) (funext fun a => Fin.ext ?_)
  match a with
  | ⟨0, _⟩ => show 256 * s.val + 1 * k.val = 256 * s.val + k.val; omega
  | ⟨1, _⟩ => show 0 + 1 * n.val = n.val; omega

/-- The run, read: the result array at the accumulator after the last block, the arguments unchanged. -/
theorem run_result : θ_run defs (onTc (τ := τ) (main (F := F))) ⟨m, fun _ => 0, ρ⟩ fun r => ∀ c : Dev nD,
    r.2.mem ((c : Thread nD τ).loc main_v1) = result m ρ c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 1).trans (final_result m ρ c),
    ((h.1 c).1 0).trans ((dats m ρ 0 c).arrAt_in 0 rfl _), (h.1 c).2⟩) (run_main m ρ)

end AnyFloat

section AtIdeal

variable (m : (ℓ : Loc nD τ sig) → Buf (Elt Ideal) ℓ) (ρ : Dev nD → PrngReg)

/-- A block of another device's `x`: its bf16 copy is `x` itself over the extended reals. -/
theorem xblk_apply (s t : Dev nD) (r k : Fin 256) :
    xblk m ρ s t (ix2 r k) = m ((s : Thread nD τ).loc main_arg0) (ix2 (row t r) k) := by
  unfold xblk xcast k0_pay1
  rw [View.read_apply, xstg_eq]
  dsimp only
  rw [shapeCast_self, shapeCast_self]
  show m ((s : Thread nD τ).loc main_arg0) _ = _
  refine congrArg (m ((s : Thread nD τ).loc main_arg0)) (funext fun a => Fin.ext ?_)
  match a with
  | ⟨0, _⟩ => show 256 * t.val + 1 * r.val = 256 * t.val + r.val; omega
  | ⟨1, _⟩ => show 0 + 1 * k.val = k.val; omega

/-- `x` on a device, as a matrix of extended reals; -/
def xmat (c : Dev nD) : FVec Ideal S8192x256 .f32 := m ((c : Thread nD τ).loc main_arg0)
/-- `w` on a device. -/
def wmat (c : Dev nD) : FVec Ideal S8192x4096 .f32 := m ((c : Thread nD τ).loc main_arg1)

/-- The entry of the product of device `s`'s block of `x` and the rows of `w` it meets. -/
def part (c s : Dev nD) (r : Fin 256) (n : Fin 4096) : EReal :=
  ∑ k : Fin 256, (xmat m s (ix2 (row c r) k) : EReal) * wmat m c (ix2 (row s k) n)

/-- The first block's product; -/
theorem pay2_apply (x : Vec Ideal S256x256 .f32) (w : S256x4096.Idx → Elt Ideal .f32) (h : S256x4096.ShapeCasts S1x256x4096) (r : Fin 256) (n : Fin 4096) :
    k0_pay2 (F := Ideal) x (shapeCast S1x256x4096 w h) (ix2 r n) = ∑ k : Fin 256, (x (ix2 r k) : EReal) * w (ix2 k n) := by
  show matmul dot_S256x256_S256x4096_S256x4096_1_0_0_1_n_n none (shapeCast S256x256 x _) (shapeCast S256x4096 (shapeCast S1x256x4096 w h) _) (constant (F := Ideal) S256x4096 .f32 0x00000000#32) (ix2 r n) = _
  rw [shapeCast_self, shapeCast_shapeCast, matmul_zero_eq_dotGeneral]
  exact StackMember.dotGeneral_plain_apply none x w r n

/-- every later block's product, added to the accumulator. -/
theorem pay3_apply (x : S256x256.Idx → Elt Ideal .bf16) (h' : S256x256.ShapeCasts S1x256x256) (w : S256x4096.Idx → Elt Ideal .f32)
    (h : S256x4096.ShapeCasts S1x256x4096) (a : Vec Ideal S256x4096 .f32) (r : Fin 256) (n : Fin 4096) :
    k0_pay3 (F := Ideal) (shapeCast S1x256x256 x h') (shapeCast S1x256x4096 w h) a (ix2 r n)
      = (a (ix2 r n) : EReal) + ∑ k : Fin 256, (x (ix2 r k) : EReal) * w (ix2 k n) := by
  show addf (shapeCast S256x4096 a _) (matmul dot_S256x256_S256x4096_S256x4096_1_0_0_1_n_n none (extf .f32 (shapeCast S256x256 (shapeCast S1x256x256 x h') _) bitsLt_bf16_f32) (shapeCast S256x4096 (shapeCast S1x256x4096 w h) _) (constant (F := Ideal) S256x4096 .f32 0x00000000#32)) (ix2 r n) = _
  rw [shapeCast_shapeCast, shapeCast_shapeCast, shapeCast_self, matmul_zero_eq_dotGeneral]
  exact congrArg ((a (ix2 r n) : EReal) + ·) (StackMember.dotGeneral_plain_apply none (extf .f32 x bitsLt_bf16_f32) w r n)

/-- The accumulator after block `j` is the sum of the first `j + 1` products. -/
theorem acc_apply (c : Dev nD) (r : Fin 256) (n : Fin 4096) : ∀ j : ℕ, acc m ρ c j (ix2 r n) = ∑ i ∈ Finset.range (j + 1), part m c (c - dn i) r n
  | 0 => by
    rw [Finset.sum_range_one]
    show k0_pay2 (F := Ideal) (xown m ρ c) (wv m c 0) (ix2 r n) = _
    unfold wv part
    rw [pay2_apply]
    refine Finset.sum_congr rfl fun k _ => ?_
    have h0 : c - dn 0 = c := sub_zero c
    rw [xown_apply, wblk_apply, h0]
    rfl
  | j + 1 => by
    rw [Finset.sum_range_succ, ← acc_apply c r n j]
    show k0_pay3 (F := Ideal) (xgv m ρ c (j + 1)) (wv m c (j + 1)) (acc m ρ c j) (ix2 r n) = _
    unfold xgv wv part
    rw [pay3_apply]
    refine congrArg _ (Finset.sum_congr rfl fun k _ => ?_)
    rw [xblk_apply, wblk_apply]
    rfl

/-- The result is the sum of the products over the devices, each counted once. -/
theorem result_apply (c : Dev nD) (r : Fin 256) (n : Fin 4096) : (result m ρ c (ix2 r n) : EReal) = ∑ s : Dev nD, part m c s r n := by
  show acc m ρ c 31 (ix2 r n) = _
  rw [acc_apply, Finset.sum_range]
  rw [← Equiv.sum_comp (Equiv.subLeft c) fun s => part m c s r n]
  refine Finset.sum_congr rfl fun i _ => ?_
  have hi : dn (i : ℕ) = i := Fin.ext (dn_val i.isLt)
  rw [hi]; rfl

/-- A sum over 8192 rows, by blocks of 256. -/
theorem sum_rows (f : Fin 8192 → EReal) : ∑ k : Fin 8192, f k = ∑ s : Dev nD, ∑ k : Fin 256, f (row s k) := by
  rw [← Fintype.sum_prod_type' (f := fun (s : Dev nD) (k : Fin 256) => f (row s k)), ← Equiv.sum_comp (finProdFinEquiv (m := 32) (n := 256))]
  refine Finset.sum_congr rfl fun p _ => congrArg f (Fin.ext ?_)
  show p.2.val + 256 * p.1.val = 256 * p.1.val + p.2.val
  omega

/-- THE VALUE: where each device's `x` is its columns of `X` and its `w` is `W`, each device's result is its rows of `X @ W`. -/
theorem result_eq (X : FVec Ideal ⟨2, ![8192, 8192]⟩ .f32) (W : FVec Ideal ⟨2, ![8192, 4096]⟩ .f32)
    (hX : ∀ c : Dev nD, m ((c : Thread nD τ).loc main_arg0) = Layout.block ⟨2, ![8192, 256]⟩ ⟨2, ![8192, 8192]⟩ 1 32 c X)
    (hW : ∀ c : Dev nD, m ((c : Thread nD τ).loc main_arg1) = W) (c : Dev nD) :
    result m ρ c = Layout.block ⟨2, ![256, 4096]⟩ ⟨2, ![8192, 4096]⟩ 0 32 c (Host.dotGeneral (DotDims.plain 8192 8192 4096) none X W) := by
  funext i
  obtain ⟨r, n, rfl⟩ : ∃ (r : Fin 256) (n : Fin 4096), i = ix2 r n := ⟨i 0, i 1, by funext a; fin_cases a <;> rfl⟩
  rw [result_apply, Layout.block_apply]
  have hi : (Layout.Tiles.idx (S := ⟨2, ![256, 4096]⟩) (T := ⟨2, ![8192, 4096]⟩) (a := 0) (k := 32) (by decide) c (ix2 r n)) = ix2 (row c r) n := by
    funext a; apply Fin.ext
    match a with
    | ⟨0, _⟩ => show c.val * 256 + r.val = 256 * c.val + r.val; omega
    | ⟨1, _⟩ => rfl
  rw [hi, StackMember.dotGeneral_plain_apply, sum_rows]
  show (∑ s : Dev nD, part m c s r n : EReal) = ∑ s : Dev nD, ∑ k : Fin 256, (X (ix2 (row c r) (row s k)) : EReal) * W (ix2 (row s k) n)
  refine Finset.sum_congr rfl fun s _ => Finset.sum_congr rfl fun k _ => ?_
  show (xmat m s (ix2 (row c r) k) : EReal) * wmat m c (ix2 (row s k) n) = _
  rw [show xmat m s = _ from hX s, show wmat m c = _ from hW c, Layout.block_apply]
  refine congrArg (fun y => (X y : EReal) * W (ix2 (row s k) n)) ?_
  funext a; apply Fin.ext
  match a with
  | ⟨0, _⟩ => rfl
  | ⟨1, _⟩ => show s.val * 256 + k.val = 256 * s.val + k.val; omega

end AtIdeal

end Cert.KernelIdealProof

end
-- ==== Proof.lean ====
/- The certificate: the kernel and its reading over the extended reals run, leave their arguments and every semaphore
   counter as they were, and the device's result is its rows of the reference's product. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunKernel
public import proofs.«01_k».proof.Proof.RunKernelIdeal
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, its arguments and its semaphore counters as they were; -/
theorem quiescentKernel : quiescent_Kernel (hKernel := Cert.Kernel.Gen.facts) := fun m g _ =>
  (θ_run _ _ _).mono (fun _ h => ⟨fun c => ⟨((h.1 c).1 0).trans ((Cert.KernelProof.dats m g 0 c).arrAt_in 0 rfl _), (h.1 c).2⟩, h.2⟩)
    (Cert.KernelProof.run_main m g)

/-- so does its reading over the extended reals; -/
theorem quiescentKernelIdeal : quiescent_KernelIdeal (hKernelIdeal := Cert.KernelIdeal.Gen.facts) := fun m g _ =>
  (θ_run _ _ _).mono (fun _ h => ⟨fun c => ⟨((h.1 c).1 0).trans ((Cert.KernelIdealProof.dats m g 0 c).arrAt_in 0 rfl _), (h.1 c).2⟩, h.2⟩)
    (Cert.KernelIdealProof.run_main m g)

/-- so does the reference, which has no semaphore. -/
theorem quiescentReferenceIdeal : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Over the extended reals each device's result is its block of rows of the reference's product. -/
theorem algebraicKernelIdeal :
    algebraic_KernelIdeal_ReferenceIdeal (hKernelIdeal := Cert.KernelIdeal.Gen.facts) (hReferenceIdeal := Cert.ReferenceIdeal.Gen.facts) := by
  intro m g m' g' _ hm
  refine ⟨_, ?_, (θ_run _ _ _).mono (fun _ h => h 0) (Cert.ReferenceIdeal.Value.run m' g')⟩
  refine (θ_run _ _ _).mono (fun _ h c => ⟨(h c).1.trans ?_, (h c).2⟩) (Cert.KernelIdealProof.run_result m g)
  exact Cert.KernelIdealProof.result_eq m g _ _ (fun c => (hm c).1) (fun c => (hm c).2) c

theorem claim : Cert.Claim := ⟨Cert.Kernel.Gen.facts, Cert.KernelIdeal.Gen.facts, Cert.ReferenceIdeal.Gen.facts,
  quiescentKernel, quiescentKernelIdeal, quiescentReferenceIdeal, trivial, algebraicKernelIdeal⟩

end Cert.Proof

end
